-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S24 : Shape := ⟨1, ![24]⟩
abbrev S22 : Shape := ⟨1, ![22]⟩
abbrev S1 : Shape := ⟨1, ![1]⟩
abbrev S_ : Shape := ⟨0, ![]⟩
abbrev S64x1024 : Shape := ⟨2, ![64, 1024]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1024x1024, .f32⟩
  | .local _ .vmem, ⟨0, _⟩ => ⟨S1x1024, .f32⟩
  | .local _ .vmem, ⟨1, _⟩ => ⟨S1024x1024, .f32⟩
  | .local _ .vmem, ⟨2, _⟩ => ⟨S512x1024, .f32⟩
  | .local _ .vmem, ⟨3, _⟩ => ⟨S1024x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c256_i32_3 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v9 : BitVec 32 := Scalar.subi c256_i32_3 v8
  let c0_i32_7 : BitVec 32 := 0#32
  ![v9.toNat, 0]
def k0_off2 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v13 : BitVec 32 := Scalar.subi c768_i32 v11
  let c0_i32_10 : BitVec 32 := 0#32
  ![v13.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let c0_i32_13 : BitVec 32 := 0#32
  ![v8.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v12 : BitVec 32 := Scalar.addi c512_i32 v11
  let c0_i32_16 : BitVec 32 := 0#32
  ![v12.toNat, 0]
def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v39 : BitVec 32 := Scalar.muli v3 c1_i32_26
  let v40 : BitVec 32 := Scalar.addi c0_i32_27 v39
  v40.toNat
def k0_dev2 (d0 : Dev nD) : Nat :=
  let c0_i32_30 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_29 : BitVec 32 := 1#32
  let v41 : BitVec 32 := Scalar.muli v4 c1_i32_29
  let v42 : BitVec 32 := Scalar.addi c0_i32_30 v41
  v42.toNat
def k0_off5 (d0 : Dev nD) (c0_i32_38 : BitVec 32) : Fin 2 → Nat :=
  let c256_i32_3 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v9 : BitVec 32 := Scalar.subi c256_i32_3 v8
  let v51 : BitVec 32 := Scalar.addi v9 c0_i32_38
  let v52 : Index := Scalar.indexCast v51
  let c0 : Index := 0#32
  ![v52.toNat, 0]
def k0_off6 (d0 : Dev nD) (c0_i32_41 : BitVec 32) : Fin 2 → Nat :=
  let c256_i32_3 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v9 : BitVec 32 := Scalar.subi c256_i32_3 v8
  let v60 : BitVec 32 := Scalar.addi v9 c0_i32_41
  let c0_i32_48 : BitVec 32 := 0#32
  ![v60.toNat, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_44 : BitVec 32 := 1#32
  let v61 : BitVec 32 := Scalar.muli v3 c1_i32_44
  let v62 : BitVec 32 := Scalar.addi c0_i32_45 v61
  v62.toNat
def k0_off7 (d0 : Dev nD) (c0_i32_49 : BitVec 32) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v13 : BitVec 32 := Scalar.subi c768_i32 v11
  let v69 : BitVec 32 := Scalar.addi v13 c0_i32_49
  let v70 : Index := Scalar.indexCast v69
  let c0_50 : Index := 0#32
  ![v70.toNat, 0]
def k0_off8 (d0 : Dev nD) (c0_i32_53 : BitVec 32) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v13 : BitVec 32 := Scalar.subi c768_i32 v11
  let v78 : BitVec 32 := Scalar.addi v13 c0_i32_53
  let c0_i32_60 : BitVec 32 := 0#32
  ![v78.toNat, 0]
def k0_dev4 (d0 : Dev nD) : Nat :=
  let c0_i32_57 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_56 : BitVec 32 := 1#32
  let v79 : BitVec 32 := Scalar.muli v4 c1_i32_56
  let v80 : BitVec 32 := Scalar.addi c0_i32_57 v79
  v80.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_67 : BitVec 32 := 1#32
  let v97 : BitVec 32 := Scalar.muli v3 c1_i32_67
  let v98 : BitVec 32 := Scalar.addi c0_i32_68 v97
  v98.toNat
def k0_dev6 (d0 : Dev nD) : Nat :=
  let c0_i32_80 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_79 : BitVec 32 := 1#32
  let v115 : BitVec 32 := Scalar.muli v4 c1_i32_79
  let v116 : BitVec 32 := Scalar.addi c0_i32_80 v115
  v116.toNat
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_90 : BitVec 32 := 1#32
  let v133 : BitVec 32 := Scalar.muli v3 c1_i32_90
  let v134 : BitVec 32 := Scalar.addi c0_i32_91 v133
  v134.toNat
def k0_dev8 (d0 : Dev nD) : Nat :=
  let c0_i32_102 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_101 : BitVec 32 := 1#32
  let v151 : BitVec 32 := Scalar.muli v4 c1_i32_101
  let v152 : BitVec 32 := Scalar.addi c0_i32_102 v151
  v152.toNat
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_112 : BitVec 32 := 1#32
  let v169 : BitVec 32 := Scalar.muli v3 c1_i32_112
  let v170 : BitVec 32 := Scalar.addi c0_i32_113 v169
  v170.toNat
def k0_dev10 (d0 : Dev nD) : Nat :=
  let c0_i32_124 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_123 : BitVec 32 := 1#32
  let v187 : BitVec 32 := Scalar.muli v4 c1_i32_123
  let v188 : BitVec 32 := Scalar.addi c0_i32_124 v187
  v188.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v199 : Index := Scalar.indexCast v8
  let c0_131 : Index := 0#32
  ![v199.toNat, 0]
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v12 : BitVec 32 := Scalar.addi c512_i32 v11
  let v210 : Index := Scalar.indexCast v12
  let c0_136 : Index := 0#32
  ![v210.toNat, 0]
def k0_off11 (d0 : Dev nD) (c0_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v227 : BitVec 32 := Scalar.addi v8 c0_i32_151
  let v228 : Index := Scalar.indexCast v227
  let c0_152 : Index := 0#32
  ![v228.toNat, 0]
def k0_off12 (d0 : Dev nD) (c0_i32_157 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c0_i32_2 : BitVec 32 := 0#32
  let c256_i32 : BitVec 32 := 256#32
  let v8 : BitVec 32 := Scalar.select v7 c0_i32_2 c256_i32
  let v237 : BitVec 32 := Scalar.addi v8 c0_i32_157
  let c0_i32_163 : BitVec 32 := 0#32
  ![v237.toNat, 0]
def k0_dev11 (d0 : Dev nD) : Nat :=
  let c0_i32_160 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_159 : BitVec 32 := 1#32
  let v238 : BitVec 32 := Scalar.muli v4 c1_i32_159
  let v239 : BitVec 32 := Scalar.addi c0_i32_160 v238
  v239.toNat
def k0_off13 (d0 : Dev nD) (c0_i32_177 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v12 : BitVec 32 := Scalar.addi c512_i32 v11
  let v256 : BitVec 32 := Scalar.addi v12 c0_i32_177
  let v257 : Index := Scalar.indexCast v256
  let c0_178 : Index := 0#32
  ![v257.toNat, 0]
def k0_off14 (d0 : Dev nD) (c0_i32_183 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .slt v2 c2_i32
  let c0_i32_4 : BitVec 32 := 0#32
  let c256_i32_5 : BitVec 32 := 256#32
  let v11 : BitVec 32 := Scalar.select v10 c0_i32_4 c256_i32_5
  let v12 : BitVec 32 := Scalar.addi c512_i32 v11
  let v266 : BitVec 32 := Scalar.addi v12 c0_i32_183
  let c0_i32_189 : BitVec 32 := 0#32
  ![v266.toNat, 0]
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_185 : BitVec 32 := 1#32
  let v267 : BitVec 32 := Scalar.muli v3 c1_i32_185
  let v268 : BitVec 32 := Scalar.addi c0_i32_186 v267
  v268.toNat
def k0_dev13 (d0 : Dev nD) : Nat :=
  let c0_i32_211 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_210 : BitVec 32 := 1#32
  let v296 : BitVec 32 := Scalar.muli v4 c1_i32_210
  let v297 : BitVec 32 := Scalar.addi c0_i32_211 v296
  v297.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_236 : BitVec 32 := 1#32
  let v325 : BitVec 32 := Scalar.muli v3 c1_i32_236
  let v326 : BitVec 32 := Scalar.addi c0_i32_237 v325
  v326.toNat
def k0_dev15 (d0 : Dev nD) : Nat :=
  let c0_i32_262 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_261 : BitVec 32 := 1#32
  let v354 : BitVec 32 := Scalar.muli v4 c1_i32_261
  let v355 : BitVec 32 := Scalar.addi c0_i32_262 v354
  v355.toNat
def k0_dev16 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_287 : BitVec 32 := 1#32
  let v383 : BitVec 32 := Scalar.muli v3 c1_i32_287
  let v384 : BitVec 32 := Scalar.addi c0_i32_288 v383
  v384.toNat
def k0_dev17 (d0 : Dev nD) : Nat :=
  let c0_i32_313 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_312 : BitVec 32 := 1#32
  let v412 : BitVec 32 := Scalar.muli v4 c1_i32_312
  let v413 : BitVec 32 := Scalar.addi c0_i32_313 v412
  v413.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_338 : BitVec 32 := 1#32
  let v441 : BitVec 32 := Scalar.muli v3 c1_i32_338
  let v442 : BitVec 32 := Scalar.addi c0_i32_339 v441
  v442.toNat
def k0_dev19 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_381 : BitVec 32 := 1#32
  let v502 : BitVec 32 := Scalar.muli v3 c1_i32_381
  let v503 : BitVec 32 := Scalar.addi c0_i32_382 v502
  v503.toNat
def k0_dev20 (d0 : Dev nD) : Nat :=
  let c0_i32_421 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_420 : BitVec 32 := 1#32
  let v561 : BitVec 32 := Scalar.muli v4 c1_i32_420
  let v562 : BitVec 32 := Scalar.addi c0_i32_421 v561
  v562.toNat
def k0_dev21 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_460 : BitVec 32 := 1#32
  let v620 : BitVec 32 := Scalar.muli v3 c1_i32_460
  let v621 : BitVec 32 := Scalar.addi c0_i32_461 v620
  v621.toNat
def k0_dev22 (d0 : Dev nD) : Nat :=
  let c0_i32_500 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_499 : BitVec 32 := 1#32
  let v679 : BitVec 32 := Scalar.muli v4 c1_i32_499
  let v680 : BitVec 32 := Scalar.addi c0_i32_500 v679
  v680.toNat
def k0_dev23 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_539 : BitVec 32 := 1#32
  let v738 : BitVec 32 := Scalar.muli v3 c1_i32_539
  let v739 : BitVec 32 := Scalar.addi c0_i32_540 v738
  v739.toNat
def k0_dev24 (d0 : Dev nD) : Nat :=
  let c0_i32_579 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_578 : BitVec 32 := 1#32
  let v797 : BitVec 32 := Scalar.muli v4 c1_i32_578
  let v798 : BitVec 32 := Scalar.addi c0_i32_579 v797
  v798.toNat
def k0_dev25 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_618 : BitVec 32 := 1#32
  let v856 : BitVec 32 := Scalar.muli v3 c1_i32_618
  let v857 : BitVec 32 := Scalar.addi c0_i32_619 v856
  v857.toNat
def k0_dev26 (d0 : Dev nD) : Nat :=
  let c0_i32_658 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_657 : BitVec 32 := 1#32
  let v915 : BitVec 32 := Scalar.muli v4 c1_i32_657
  let v916 : BitVec 32 := Scalar.addi c0_i32_658 v915
  v916.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Loops.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

/-!
# The kernel body as loops

The printed body is one straight line of about 250 operations, the loops of the kernel written out. Here it is put back
together: eight steps, each written once for a stream (`false` the upper half of the rows, `true` the lower) and a
chunk (`Fin 4`), and the body as loops over them. `body_eq` says the two are the same program.
-/

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The buffers and semaphores -/

/-- The operand's block in HBM, -/
abbrev xH : Memref sig .tc .hbm S1024x1024 .f32 := Memref.whole main_v1
/-- the residual in HBM, -/
abbrev rH : Memref sig .tc .hbm S1024x1024 .f32 := Memref.whole main_arg1
/-- the result in HBM, -/
abbrev oH : Memref sig .tc .hbm S1024x1024 .f32 := Memref.whole main_v3
/-- the fetched operand, -/
abbrev xV : Memref sig .tc .vmem S1024x1024 .f32 := Memref.whole cc0_scratch0
/-- the fetched residual rows, -/
abbrev rV : Memref sig .tc .vmem S512x1024 .f32 := Memref.whole cc0_scratch1
/-- the result rows before they are copied out, -/
abbrev oV : Memref sig .tc .vmem S1024x1024 .f32 := Memref.whole cc0_scratch2
/-- the rows sent and combined, -/
abbrev wV : Memref sig .tc .vmem S1024x1024 .bf16 := Memref.whole cc0_scratch3

/-- The buffer the rows of phase 0 (`false`) or 1 (`true`) land in. -/
def lnd (ph s : Bool) : Memref sig .tc .vmem S256x1024 .bf16 :=
  match ph, s with
  | false, false => Memref.whole cc0_scratch4
  | false, true => Memref.whole cc0_scratch5
  | true, false => Memref.whole cc0_scratch6
  | true, true => Memref.whole cc0_scratch7

theorem lnd_whole (ph s : Bool) : (lnd ph s).IsWhole := by
  cases ph <;> cases s <;> exact Memref.isWhole_whole _

theorem inb24 (i : Fin 24) : ∀ a, (![i.val] : Fin 1 → ℕ) a + S1.size a ≤ S24.size a := by
  intro a; fin_cases a; have := i.isLt; show i.val + 1 ≤ 24; omega
theorem inb22 (i : Fin 22) : ∀ a, (![i.val] : Fin 1 → ℕ) a + S1.size a ≤ S22.size a := by
  intro a; fin_cases a; have := i.isLt; show i.val + 1 ≤ 22; omega

/-- The semaphore of the `i`-th remote copy's source, -/
def sSem (i : Fin 24) : DmaSem sig :=
  ((cc0_scratch8.slice (Rect.unit (s := S24) ![i.val] S1.size (inb24 i))).squeeze S_ squeezes_S1_S_).sem
/-- of its landing, -/
def rSem (i : Fin 24) : DmaSem sig :=
  ((cc0_scratch9.slice (Rect.unit (s := S24) ![i.val] S1.size (inb24 i))).squeeze S_ squeezes_S1_S_).sem
/-- and of the `i`-th local copy. -/
def dSem (i : Fin 22) : DmaSem sig :=
  ((cc0_scratch10.slice (Rect.unit (s := S22) ![i.val] S1.size (inb22 i))).squeeze S_ squeezes_S1_S_).sem
/-- The barrier's semaphore. -/
def bSem : Sem sig := (SemArray.scalar (sig.barrier 0 rfl) : Sems sig S_).sem

/-! ## Rows -/

/-- 64 rows of a whole array, -/
abbrev R64 (o : Fin 2 → ℕ) (h : ∀ a, o a + S64x1024.size a ≤ S1024x1024.size a) : Rect S1024x1024 :=
  Rect.unit (s := S1024x1024) o S64x1024.size h
/-- 256 rows of it, -/
abbrev R256 (o : Fin 2 → ℕ) (h : ∀ a, o a + S256x1024.size a ≤ S1024x1024.size a) : Rect S1024x1024 :=
  Rect.unit (s := S1024x1024) o S256x1024.size h

theorem inbL (r : Fin 4) : ∀ a, (![64 * r.val, 0] : Fin 2 → ℕ) a + S64x1024.size a ≤ S256x1024.size a := by
  intro a; have := r.isLt; fin_cases a
  · show 64 * r.val + 64 ≤ 256; omega
  · show 0 + 1024 ≤ 1024; omega
/-- chunk `r` of a landing buffer. -/
abbrev RL (r : Fin 4) : Rect S256x1024 := Rect.unit (s := S256x1024) ![64 * r.val, 0] S64x1024.size (inbL r)

theorem wordsL (r : Fin 4) : (RL r).WholeWords (EltTy.packing .bf16) := by
  fin_cases r
  · exact wordsbf16_S256x1024_S64x1024_0_0
  · exact wordsbf16_S256x1024_S64x1024_64_0
  · exact wordsbf16_S256x1024_S64x1024_128_0
  · exact wordsbf16_S256x1024_S64x1024_192_0

/-- Where stream `s` starts in the fetched residual. -/
def rBase (s : Bool) : ℕ := match s with | false => 0 | true => 256
theorem inbR (s : Bool) (r : Fin 4) : ∀ a, (![rBase s + 64 * r.val, 0] : Fin 2 → ℕ) a + S64x1024.size a ≤ S512x1024.size a := by
  intro a; have := r.isLt; fin_cases a
  · show rBase s + 64 * r.val + 64 ≤ 512; cases s <;> simp only [rBase] <;> omega
  · show 0 + 1024 ≤ 1024; omega
theorem inbR256 (s : Bool) : ∀ a, (![rBase s, 0] : Fin 2 → ℕ) a + S256x1024.size a ≤ S512x1024.size a := by
  intro a; fin_cases a
  · show rBase s + 256 ≤ 512; cases s <;> simp only [rBase] <;> omega
  · show 0 + 1024 ≤ 1024; omega
/-- Chunk `r` of stream `s` in the fetched residual, -/
abbrev RR (s : Bool) (r : Fin 4) : Rect S512x1024 := Rect.unit (s := S512x1024) ![rBase s + 64 * r.val, 0] S64x1024.size (inbR s r)
/-- the four chunks together. -/
abbrev RR256 (s : Bool) : Rect S512x1024 := Rect.unit (s := S512x1024) ![rBase s, 0] S256x1024.size (inbR256 s)

section Offsets
variable (d : Dev nD) (s : Bool) (r : Fin 4)

/-- The first row of the chunk a device gives away, as the kernel computes it, -/
def offG : Fin 2 → ℕ := match s with
  | false => k0_off5 d (BitVec.ofNat 32 (64 * r.val))
  | true => k0_off7 d (BitVec.ofNat 32 (64 * r.val))
/-- of the chunk it keeps, -/
def offK : Fin 2 → ℕ := match s with
  | false => k0_off11 d (BitVec.ofNat 32 (64 * r.val))
  | true => k0_off13 d (BitVec.ofNat 32 (64 * r.val))
/-- of all it gives away, -/
def offG4 : Fin 2 → ℕ := match s with
  | false => k0_off1 d
  | true => k0_off2 d
/-- of all it keeps. -/
def offK4 : Fin 2 → ℕ := match s with
  | false => k0_off3 d
  | true => k0_off4 d

theorem inbG : ∀ a, offG d s r a + S64x1024.size a ≤ S1024x1024.size a := by
  cases s
  · exact k0_off5_inb d r
  · exact k0_off7_inb d r
theorem inbK : ∀ a, offK d s r a + S64x1024.size a ≤ S1024x1024.size a := by
  cases s
  · exact k0_off11_inb d r
  · exact k0_off13_inb d r
theorem inbG4 : ∀ a, offG4 d s a + S256x1024.size a ≤ S1024x1024.size a := by
  cases s
  · exact k0_off1_inb d
  · exact k0_off2_inb d
theorem inbK4 : ∀ a, offK4 d s a + S256x1024.size a ≤ S1024x1024.size a := by
  cases s
  · exact k0_off3_inb d
  · exact k0_off4_inb d

theorem packG : (R64 (offG d s r) (inbG d s r)).PackedRows (EltTy.packing .bf16) := by
  cases s
  · exact k0_off5_packedbf16 d r
  · exact k0_off7_packedbf16 d r
theorem packK : (R64 (offK d s r) (inbK d s r)).PackedRows (EltTy.packing .bf16) := by
  cases s
  · exact k0_off11_packedbf16 d r
  · exact k0_off13_packedbf16 d r
theorem wordsG : (R64 (offG d s r) (inbG d s r)).WholeWords (EltTy.packing .bf16) := by
  cases s
  · exact k0_off6_wordsbf16 d r
  · exact k0_off8_wordsbf16 d r
theorem wordsK : (R64 (offK d s r) (inbK d s r)).WholeWords (EltTy.packing .bf16) := by
  cases s
  · exact k0_off12_wordsbf16 d r
  · exact k0_off14_wordsbf16 d r
theorem packK4 : (R256 (offK4 d s) (inbK4 d s)).PackedRows (EltTy.packing .bf16) := by
  cases s
  · exact k0_off9_packedbf16 d
  · exact k0_off10_packedbf16 d

/-- The device in the same pair, as the kernel computes it, -/
def dev1 : Dev nD := ⟨k0_dev1 d, k0_dev1_lt d⟩
/-- and the one across. -/
def dev2 : Dev nD := ⟨k0_dev2 d, k0_dev2_lt d⟩
/-- Whom stream `s` talks to in phases 0 and 2, -/
def devP : Dev nD := match s with | false => dev1 d | true => dev2 d
/-- and in phase 1. -/
def devQ : Dev nD := match s with | false => dev2 d | true => dev1 d
end Offsets

/-- Which of the 24 remote copies chunk `r` of stream `s` is in phase `ph`. -/
def cp (ph : Fin 3) (s : Bool) (r : Fin 4) : Fin 24 :=
  ⟨(ph.val * 2 + s.toNat) * 4 + r.val, by have := ph.isLt; have := r.isLt; have := s.toNat_le; omega⟩

/-- Which local copy fetches the rows of stream `s` given away, -/
def fG (s : Bool) : Fin 22 := match s with | false => 0 | true => 1
/-- the rows kept, -/
def fK (s : Bool) : Fin 22 := match s with | false => 2 | true => 3
/-- the residual's; -/
def fR (s : Bool) : Fin 22 := match s with | false => 4 | true => 5
/-- which one copies out a chunk kept, -/
def wK (s : Bool) (r : Fin 4) : Fin 22 := ⟨6 + s.toNat * 4 + r.val, by have := r.isLt; have := s.toNat_le; omega⟩
/-- and one given away. -/
def wG (s : Bool) (r : Fin 4) : Fin 22 := ⟨14 + s.toNat * 4 + r.val, by have := r.isLt; have := s.toNat_le; omega⟩

/-! ## The steps -/

/-- A kernel program. -/
abbrev TP (F : FTy → Type) := Prog (TpuEff nD τ sig (Elt F) Λ₀ .tc) PUnit

section Steps
variable (gV : Memref sig .tc .vmem S1x1024 .f32) (d : Dev nD) (s : Bool) (r : Fin 4)

/-- The chunk given away, kept in the array of the copies, -/
abbrev mG {sp : Space} {e : EltTy} (m : Memref sig .tc sp S1024x1024 e) : Memref sig .tc sp S64x1024 e :=
  m.slice (R64 (offG d s r) (inbG d s r)) (fun _ => rfl)
/-- and the chunk kept. -/
abbrev mK {sp : Space} {e : EltTy} (m : Memref sig .tc sp S1024x1024 e) : Memref sig .tc sp S64x1024 e :=
  m.slice (R64 (offK d s r) (inbK d s r)) (fun _ => rfl)
abbrev mG4 {sp : Space} {e : EltTy} (m : Memref sig .tc sp S1024x1024 e) : Memref sig .tc sp S256x1024 e :=
  m.slice (R256 (offG4 d s) (inbG4 d s)) (fun _ => rfl)
abbrev mK4 {sp : Space} {e : EltTy} (m : Memref sig .tc sp S1024x1024 e) : Memref sig .tc sp S256x1024 e :=
  m.slice (R256 (offK4 d s) (inbK4 d s)) (fun _ => rfl)
/-- Chunk `r` of the landing buffer of a phase. -/
abbrev mL (ph : Bool) : Memref sig .tc .vmem S64x1024 .bf16 := (lnd ph s).slice (RL r) (fun _ => rfl)
/-- The rows of stream `s` of the fetched residual. -/
abbrev mR4 : Memref sig .tc .vmem S256x1024 .f32 := rV.slice (RR256 s) (fun _ => rfl)

theorem wexG : (mG d s r wV).view.WordExact := (Memref.isWhole_whole _).wordExact_slice rfl _ (wordsG d s r)
theorem wexK : (mK d s r wV).view.WordExact := (Memref.isWhole_whole _).wordExact_slice rfl _ (wordsK d s r)
theorem wexL (ph : Bool) : (mL s r ph).view.WordExact := (lnd_whole ph s).wordExact_slice rfl _ (wordsL r)

/-- Start the fetch of 256 rows. -/
def fetch {m : Memref sig .tc .hbm S256x1024 .f32} {v : Memref sig .tc .vmem S256x1024 .f32} (i : Fin 22) : TP F :=
  Prog.lift (.enqueueDma m (.here v) (.dma (dSem i)) (View.wordExact_bits rfl) (View.wordExact_bits rfl) ⟨Or.inl rfl, trivial⟩)
/-- Wait for it. -/
def fetched {m : Memref sig .tc .hbm S256x1024 .f32} {v : Memref sig .tc .vmem S256x1024 .f32} (i : Fin 22) : TP F :=
  Prog.lift (.waitDma2 (dSem i) m v (View.wordExact_bits rfl) (View.wordExact_bits rfl))
/-- Start copying 64 result rows out. -/
def out {v : Memref sig .tc .vmem S64x1024 .f32} {m : Memref sig .tc .hbm S64x1024 .f32} (i : Fin 22) : TP F :=
  Prog.lift (.enqueueDma v (.here m) (.dma (dSem i)) (View.wordExact_bits rfl) (View.wordExact_bits rfl) ⟨Or.inl rfl, trivial⟩)
/-- Wait for that. -/
def outDone {v : Memref sig .tc .vmem S64x1024 .f32} {m : Memref sig .tc .hbm S64x1024 .f32} (i : Fin 22) : TP F :=
  Prog.lift (.waitDma2 (dSem i) v m (View.wordExact_bits rfl) (View.wordExact_bits rfl))

/-- Phase 0: round the chunk given away and send it. -/
def give0 : TP F := do
  let v ← Prog.lift (.load xV (R64 (offG d s r) (inbG d s r)).toLoadRect (View.loadsAt_vmem h_S64x1024))
  let _ ← Prog.lift (.load wV (R64 (offG d s r) (inbG d s r)).toLoadRect (View.loadsAt_vmem h_S64x1024))
  Prog.lift (.store wV (R64 (offG d s r) (inbG d s r)) (k0_pay3 v) Finset.univ
    (View.stores_vmem h_S64x1024 ((Memref.isWhole_whole _).storeExact_slice rfl _ (packG d s r)) (fun _ => rfl)) (.inl rfl))
  Prog.lift (.enqueueDma (mG d s r wV) (.remote (Dev.tc (devP d s)) (mL s r false) (.dma (sSem (cp 0 s r)))) (.dma (rSem (cp 0 s r)))
    (wexG d s r) (wexL s r false) ⟨⟨rfl, Or.inl rfl⟩, trivial⟩)

/-- Round the rows kept. -/
def keep0 : TP F := do
  fetched (m := mK4 d s xH) (v := mK4 d s xV) (fK s)
  let v ← Prog.lift (.load xV (R256 (offK4 d s) (inbK4 d s)).toLoadRect (View.loadsAt_vmem h_S256x1024))
  let _ ← Prog.lift (.load wV (R256 (offK4 d s) (inbK4 d s)).toLoadRect (View.loadsAt_vmem h_S256x1024))
  Prog.lift (.store wV (R256 (offK4 d s) (inbK4 d s)) (k0_pay10 v) Finset.univ
    (View.stores_vmem h_S256x1024 ((Memref.isWhole_whole _).storeExact_slice rfl _ (packK4 d s)) (fun _ => rfl)) (.inl rfl))

/-- Phase 1: add what landed in phase 0 and send the sum. -/
def sum1 : TP F := do
  Prog.lift (.waitDma2 (sSem (cp 0 s r)) (mL s r false) (mG d s r wV) (wexL s r false) (wexG d s r))
  Prog.lift (.waitDma2 (rSem (cp 0 s r)) (mG d s r wV) (mL s r false) (wexG d s r) (wexL s r false))
  let v ← Prog.lift (.load wV (R64 (offK d s r) (inbK d s r)).toLoadRect (View.loadsAt_vmem h_S64x1024))
  let w ← Prog.lift (.load (lnd false s) (RL r).toLoadRect (View.loadsAt_vmem h_S64x1024))
  let _ ← Prog.lift (.load wV (R64 (offK d s r) (inbK d s r)).toLoadRect (View.loadsAt_vmem h_S64x1024))
  Prog.lift (.store wV (R64 (offK d s r) (inbK d s r)) (k0_pay13 v w) Finset.univ
    (View.stores_vmem h_S64x1024 ((Memref.isWhole_whole _).storeExact_slice rfl _ (packK d s r)) (fun _ => rfl)) (.inl rfl))
  Prog.lift (.enqueueDma (mK d s r wV) (.remote (Dev.tc (devQ d s)) (mL s r true) (.dma (sSem (cp 1 s r)))) (.dma (rSem (cp 1 s r)))
    (wexK d s r) (wexL s r true) ⟨⟨rfl, Or.inl rfl⟩, trivial⟩)

/-- Phase 2: add what landed in phase 1 and the residual, normalise, and send the rounded rows. -/
def norm2 : TP F := do
  Prog.lift (.waitDma2 (sSem (cp 1 s r)) (mL s r true) (mK d s r wV) (wexL s r true) (wexK d s r))
  Prog.lift (.waitDma2 (rSem (cp 1 s r)) (mK d s r wV) (mL s r true) (wexK d s r) (wexL s r true))
  let v ← Prog.lift (.load wV (R64 (offK d s r) (inbK d s r)).toLoadRect (View.loadsAt_vmem h_S64x1024))
  let w ← Prog.lift (.load (lnd true s) (RL r).toLoadRect (View.loadsAt_vmem h_S64x1024))
  let y ← Prog.lift (.load rV (RR s r).toLoadRect (View.loadsAt_vmem h_S64x1024))
  let g ← Prog.lift (.load gV (Rect.unit (s := S1x1024) ![0, 0] S1x1024.size inb_S1x1024_S1x1024_0_0).toLoadRect (View.loadsAt_vmem h_S1x1024))
  let _ ← Prog.lift (.load wV (R64 (offK d s r) (inbK d s r)).toLoadRect (View.loadsAt_vmem h_S64x1024))
  Prog.lift (.store wV (R64 (offK d s r) (inbK d s r)) (k0_pay25 v w y g) Finset.univ
    (View.stores_vmem h_S64x1024 ((Memref.isWhole_whole _).storeExact_slice rfl _ (packK d s r)) (fun _ => rfl)) (.inl rfl))
  let _ ← Prog.lift (.load oV (R64 (offK d s r) (inbK d s r)).toLoadRect (View.loadsAt_vmem h_S64x1024))
  Prog.lift (.store oV (R64 (offK d s r) (inbK d s r)) (k0_pay23 (k0_pay24 v w y g)) Finset.univ (View.stores_vmem_bits_univ h_S64x1024 rfl) (.inl rfl))
  Prog.lift (.enqueueDma (mK d s r wV) (.remote (Dev.tc (devP d s)) (mK d s r wV) (.dma (sSem (cp 2 s r)))) (.dma (rSem (cp 2 s r)))
    (wexK d s r) (wexK d s r) ⟨⟨rfl, Or.inl rfl⟩, trivial⟩)
  out (v := mK d s r oV) (m := mK d s r oH) (wK s r)

/-- Copy the rows received in phase 2 to the result. -/
def take2 : TP F := do
  Prog.lift (.waitDma2 (sSem (cp 2 s r)) (mK d s r wV) (mK d s r wV) (wexK d s r) (wexK d s r))
  Prog.lift (.waitDma2 (rSem (cp 2 s r)) (mK d s r wV) (mK d s r wV) (wexK d s r) (wexK d s r))
  let v ← Prog.lift (.load wV (R64 (offG d s r) (inbG d s r)).toLoadRect (View.loadsAt_vmem h_S64x1024))
  let _ ← Prog.lift (.load oV (R64 (offG d s r) (inbG d s r)).toLoadRect (View.loadsAt_vmem h_S64x1024))
  Prog.lift (.store oV (R64 (offG d s r) (inbG d s r)) (k0_pay49 v) Finset.univ (View.stores_vmem_bits_univ h_S64x1024 rfl) (.inl rfl))
  out (v := mG d s r oV) (m := mG d s r oH) (wG s r)
end Steps

/-! ## The body -/

/-- A step for both streams, chunk after chunk. -/
def loop (f : Bool → Fin 4 → TP F) : TP F := do
  f false 0; f true 0
  f false 1; f true 1
  f false 2; f true 2
  f false 3; f true 3

/-- Start the six fetches. -/
def fetches (d : Dev nD) : TP F := do
  fetch (m := mG4 d false xH) (v := mG4 d false xV) (fG false)
  fetch (m := mG4 d true xH) (v := mG4 d true xV) (fG true)
  fetch (m := mK4 d false xH) (v := mK4 d false xV) (fK false)
  fetch (m := mK4 d true xH) (v := mK4 d true xV) (fK true)
  fetch (m := mK4 d false rH) (v := mR4 false) (fR false)
  fetch (m := mK4 d true rH) (v := mR4 true) (fR true)

/-- Signal both partners and wait for both. -/
def barrier (d : Dev nD) : TP F := do
  semSignalWord (dev1 d) bSem 1#32
  semSignalWord (dev2 d) bSem 1#32
  semWaitWord bSem 2#32

/-- The body on device `d`. -/
def body (gV : Memref sig .tc .vmem S1x1024 .f32) (d : Dev nD) : TP F := do
  fetches d
  barrier d
  fetched (m := mG4 d false xH) (v := mG4 d false xV) (fG false)
  fetched (m := mG4 d true xH) (v := mG4 d true xV) (fG true)
  loop (give0 d)
  keep0 d false
  keep0 d true
  loop (sum1 d)
  fetched (m := mK4 d false rH) (v := mR4 false) (fR false)
  fetched (m := mK4 d true rH) (v := mR4 true) (fR true)
  loop (norm2 gV d)
  loop (take2 d)
  loop (fun s r => outDone (v := mK d s r oV) (m := mK d s r oH) (wK s r))
  loop (fun s r => outDone (v := mG d s r oV) (m := mG d s r oH) (wG s r))

/-- Two programs that ask the same first and go on the same are the same. -/
theorem op_congr {Op : Type → Type} {A B : Type} {e e' : Op A} {k k' : A → Prog Op B}
    (he : e = e') (hk : ∀ a, k a = k' a) : Prog.op e k = Prog.op e' k' := by
  rw [he, funext hk]

set_option maxRecDepth 100000 in
set_option maxHeartbeats 400000 in
/-- The printed body is the body above, on the device it asks for. -/
theorem body_eq (t : Fin cfg0.N) :
    bodyAt0 (F := F) t = (do let d ← Prog.lift .deviceId; body ((cfg0.win 0).stage (cfg0.slots t 0)) d) := by
  refine op_congr rfl fun d => ?_
  repeat refine op_congr rfl fun _ => ?_
  rfl

end Cert.KernelIdeal.Hand

end
-- ==== Proof.KernelIdeal.Proto.lean ====
module

public import proofs.«01_k».proof.Proof.KernelIdeal.Loops
public import Idealize.ShloMosaic.Lib.Pipeline.Regions
public import Idealize.ShloMosaic.Lib.Pipeline.Kit
public import Idealize.ShloMosaic.Lib.Rounds
public import Idealize.ShloMosaic.Lib.Memref
public import Idealize.ShloMosaic.Lib.Transfers
public import Idealize.ShloMosaic.Lib.StableHlo
public import Idealize.ShloMosaic.Lib.Tactic
public import Idealize.ShloMosaic.Lib.Pipeline.RegionTalk

/-!
# The protocol

Who talks to whom, the values that go over, and the schedule of the cells: for each of the 24 remote copies a device
starts, a cell on its own side for the source's return and a cell on the partner's side for the landing, and one barrier
cell a device. A copy is named by its phase, stream and chunk (`Cp`).

* The barrier of a device is paid one unit by each of its two partners; a partner hands over the landing buffers the
  device will write into, and that the landing cells there are open.
* Phase 0 lands the partner's rounded rows, and with them comes the place they were sent from: phase 2 writes there.
* Phase 1 lands the partner's sums of two.
* Phase 2 lands the partner's rounded result, in the rows phase 0 sent away.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners -/

theorem dev1_dev1 : ∀ d, dev1 (dev1 d) = d := by decide +kernel
theorem dev2_dev2 : ∀ d, dev2 (dev2 d) = d := by decide +kernel
theorem devP_devP : ∀ d s, devP (devP d s) s = d := by decide +kernel
theorem devQ_devQ : ∀ d s, devQ (devQ d s) s = d := by decide +kernel
theorem devQ_not (d : Dev nD) (s : Bool) : devQ d (!s) = devP d s := by cases s <;> rfl
theorem devP_not (d : Dev nD) (s : Bool) : devP d (!s) = devQ d s := by cases s <;> rfl
/-- What a device keeps is what its partner gave it room for. -/
theorem offK_eq_offG : ∀ d s r, offK d s r = offG (devP d s) s r := by decide +kernel
theorem offK_devQ : ∀ d s r, offK (devQ d s) s r = offK d s r := by decide +kernel
theorem offG_chunk : ∀ d s r, offG d s r = ![offG4 d s 0 + 64 * r.val, 0] := by decide +kernel
theorem offG4_col : ∀ d s, offG4 d s 1 = 0 := by decide +kernel
theorem offK_chunk : ∀ d s r, offK d s r = ![offK4 d s 0 + 64 * r.val, 0] := by decide +kernel
theorem offK4_col : ∀ d s, offK4 d s 1 = 0 := by decide +kernel

/-! ## The remote copies -/

/-- Phase, stream, chunk. -/
abbrev Cp := Fin 3 × Bool × Fin 4

/-- The copy's place among the 24, -/
def cpi (i : Cp) : Fin 24 := cp i.1 i.2.1 i.2.2
/-- and in the order they are started and waited for. -/
def ord (i : Cp) : ℕ := i.1.val * 8 + (2 * i.2.2.val + i.2.1.toNat)
/-- Whom device `d` sends copy `i` to; and who sends `d` its copy `i`. -/
def peer (d : Dev nD) (i : Cp) : Dev nD := if i.1 = 1 then devQ d i.2.1 else devP d i.2.1
theorem peer_peer : ∀ d i, peer (peer d i) i = d := by decide +kernel

theorem cpi_inj : ∀ i j : Cp, cpi i = cpi j → i = j := by decide +kernel
theorem ord_inj : ∀ i j : Cp, ord i = ord j → i = j := by decide +kernel
theorem sSem_inj : ∀ i j, sSem i = sSem j → i = j := by decide +kernel
theorem rSem_inj : ∀ i j, rSem i = rSem j → i = j := by decide +kernel
theorem sSem_ne_rSem : ∀ i j, sSem i ≠ rSem j := by decide +kernel
theorem dSem_ne_rSem : ∀ i j, dSem i ≠ rSem j := by decide +kernel

abbrev barCell (d : Dev nD) : GSem nD τ sig := ((d : Thread nD τ), .reg bSem)
abbrev sCell (d : Dev nD) (i : Cp) : GSem nD τ sig := ((d : Thread nD τ), .dma (sSem (cpi i)))
abbrev rCell (d : Dev nD) (i : Cp) : GSem nD τ sig := ((d : Thread nD τ), .dma (rSem (cpi i)))

/-- The credit of 64 rows landing. -/
abbrev N : ℕ := (mL false 0 false).view.dmaCredit
theorem N_pos : 0 < N := View.dmaCredit_pos _ (by decide)

/-! ## Ghost state -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's copy. -/
def ER : Emb UB (MT nD τ sig Unit (Elt F) ℕ UU ℕ) := (Emb.inl : Emb UB (UB × Counters)).trans embR
instance ER_lands : (ER (F := F)).LandsIn (upEmb : UEmb _ 𝕄) := by unfold ER; infer_instance

/-! ## Owned rows -/

/-- Device `d` owns the memref's elements at contents `X`; -/
abbrev own (d : Dev nD) {sp : Space} {sh : Shape} {e : EltTy} (m : Memref sig .tc sp sh e) (X : sh.Idx → Elt F e) : sProp 𝕄 :=
  owns (d : Thread nD τ) m fullShare X
/-- at contents not chosen. -/
abbrev ownA (d : Dev nD) {sp : Space} {sh : Shape} {e : EltTy} (m : Memref sig .tc sp sh e) : sProp 𝕄 :=
  iprop(∃ X : sh.Idx → Elt F e, own d m X)

/-- Two ways to the same rows own the same. -/
theorem own_rows (d : Dev nD) {sp : Space} {e : EltTy} (m : Memref sig .tc sp S1024x1024 e) {o o' : Fin 2 → ℕ}
    (h : ∀ a, o a + S64x1024.size a ≤ S1024x1024.size a) (h' : ∀ a, o' a + S64x1024.size a ≤ S1024x1024.size a) (he : o = o')
    (X : S64x1024.Idx → Elt F e) :
    own d (m.slice (R64 o h) (fun _ => rfl)) X = own d (m.slice (R64 o' h') (fun _ => rfl)) X := by
  subst he; rfl

/-! ## The values -/

section Values
variable (A Rs : Dev nD → S1024x1024.Idx → Elt F .f32) (Gm : Dev nD → S1x1024.Idx → Elt F .f32) (d : Dev nD) (s : Bool) (r : Fin 4)

/-- The operand's rows given away, all 256 and a chunk; -/
def xG4 : S256x1024.Idx → Elt F .f32 := fun j => A d ((R256 (offG4 d s) (inbG4 d s)).emb j)
def xG : S64x1024.Idx → Elt F .f32 := fun j => xG4 A d s ((RL r).emb j)
/-- the rows kept; -/
def xK4 : S256x1024.Idx → Elt F .f32 := fun j => A d ((R256 (offK4 d s) (inbK4 d s)).emb j)
/-- the residual's rows. -/
def yK4 : S256x1024.Idx → Elt F .f32 := fun j => Rs d ((R256 (offK4 d s) (inbK4 d s)).emb j)
def yK : S64x1024.Idx → Elt F .f32 := fun j => yK4 Rs d s ((RL r).emb j)
/-- What is sent in phase 0; -/
def G0 : S64x1024.Idx → Elt F .bf16 := k0_pay3 (xG A d s r)
/-- what it is added to; -/
def K0 : S64x1024.Idx → Elt F .bf16 := fun j => k0_pay10 (xK4 A d s) ((RL r).emb j)
/-- the sum of two, sent in phase 1; -/
def S1 : S64x1024.Idx → Elt F .bf16 := k0_pay13 (K0 A d s r) (G0 A (devP d s) s r)
/-- the rounded result, sent in phase 2; -/
def N2 : S64x1024.Idx → Elt F .bf16 := k0_pay25 (S1 A d s r) (S1 A (devQ d s) s r) (yK Rs d s r) (Gm d)
/-- the result rows of the rows kept; -/
def O2 : S64x1024.Idx → Elt F .f32 := k0_pay23 (k0_pay24 (S1 A d s r) (S1 A (devQ d s) s r) (yK Rs d s r) (Gm d))
/-- and of the rows given away. -/
def T2 : S64x1024.Idx → Elt F .f32 := k0_pay49 (N2 A Rs Gm (devP d s) s r)
end Values

/-! ## The schedule -/

section Sched
variable (A Rs : Dev nD → S1024x1024.Idx → Elt F .f32) (Gm : Dev nD → S1x1024.Idx → Elt F .f32)

/-- The room on the phase-0 partner for chunk `r`, and that its cells are open, -/
def room0 (d : Dev nD) (s : Bool) (r : Fin 4) : sProp 𝕄 :=
  iprop(ownA (devP d s) (mL s r false) ∗ reached ER (rCell (devP d s) (0, s, r)) 0 ∗ reached ER (rCell (devP d s) (2, s, r)) 0)
/-- and on the phase-1 partner. -/
def room1 (d : Dev nD) (s : Bool) (r : Fin 4) : sProp 𝕄 :=
  iprop(ownA (devQ d s) (mL s r true) ∗ reached ER (rCell (devQ d s) (1, s, r)) 0)

/-- What partner `b` of device `d` pays into its barrier. -/
def barPay (d : Dev nD) (b : Bool) : sProp 𝕄 := bigSep Finset.univ fun r : Fin 4 => iprop(room0 d b r ∗ room1 d (!b) r)

/-- What comes back with a copy's source cell, -/
def sendPay (d : Dev nD) (i : Cp) : sProp 𝕄 :=
  match i with
  | (0, _, _) => iprop(emp)
  | (1, s, r) => own d (mK d s r wV) (S1 A d s r)
  | (2, s, r) => own d (mK d s r wV) (N2 A Rs Gm d s r)
/-- and with its landing. -/
def recvPay (d : Dev nD) (i : Cp) : sProp 𝕄 :=
  match i with
  | (0, s, r) => iprop(own d (mL s r false) (G0 A (devP d s) s r) ∗ ownA (devP d s) (mK d s r wV))
  | (1, s, r) => own d (mL s r true) (S1 A (devQ d s) s r)
  | (2, s, r) => own d (mG d s r wV) (N2 A Rs Gm (devP d s) s r)

/-- The cell is one of the sources', -/
def IsS (q : SemLoc sig) : Prop := ∃ i : Cp, q = .dma (sSem (cpi i))
/-- one of the landings'. -/
def IsR (q : SemLoc sig) : Prop := ∃ i : Cp, q = .dma (rSem (cpi i))

open Classical in
/-- The schedule: everything in round 0; the barrier two units, from either partner. -/
def Rd : Rounds.Schedule (GSem nD τ sig) Bool 𝕄 where
  duties g r := if r = 0 ∧ g.1.2 = .tc then
    (if g.2 = .reg bSem then Finset.univ else if IsS g.2 ∨ IsR g.2 then {false} else ∅) else ∅
  unitless _ := False
  amount g _ _ := if g.2 = .reg bSem then 1 else N
  payload g _ b :=
    if g.2 = .reg bSem then barPay g.1.1 b
    else if h : IsR g.2 then recvPay A Rs Gm g.1.1 h.choose
    else if h : IsS g.2 then sendPay A Rs Gm g.1.1 h.choose
    else iprop(emp)
  amount_pos g _ _ _ := by
    by_cases h : g.2 = .reg bSem
    · rw [if_pos h]; exact Nat.one_pos
    · rw [if_neg h]; exact N_pos

instance barPay_storable (d : Dev nD) (b : Bool) : BI.Storable (upEmb : UEmb _ 𝕄) (barPay (F := F) d b) := by
  unfold barPay room0 room1; infer_instance
instance sendPay_storable (d : Dev nD) (i : Cp) : BI.Storable (upEmb : UEmb _ 𝕄) (sendPay A Rs Gm d i) := by
  obtain ⟨p, s, r⟩ := i
  fin_cases p <;> (dsimp only [sendPay]; infer_instance)
instance recvPay_storable (d : Dev nD) (i : Cp) : BI.Storable (upEmb : UEmb _ 𝕄) (recvPay A Rs Gm d i) := by
  obtain ⟨p, s, r⟩ := i
  fin_cases p <;> (dsimp only [recvPay]; infer_instance)
instance Rd_storable (g : GSem nD τ sig) (r : ℕ) (b : Bool) : BI.Storable (upEmb : UEmb _ 𝕄) ((Rd A Rs Gm).payload g r b) := by
  dsimp only [Rd]
  (repeat' split) <;> infer_instance

variable (d : Dev nD) (i : Cp)

theorem isS_s : IsS (.dma (sSem (cpi i)) : SemLoc sig) := ⟨i, rfl⟩
theorem isR_r : IsR (.dma (rSem (cpi i)) : SemLoc sig) := ⟨i, rfl⟩
theorem isR_choose (h : IsR (.dma (rSem (cpi i)) : SemLoc sig)) : h.choose = i :=
  (cpi_inj _ _ (rSem_inj _ _ (SemLoc.dma.inj h.choose_spec))).symm
theorem isS_choose (h : IsS (.dma (sSem (cpi i)) : SemLoc sig)) : h.choose = i :=
  (cpi_inj _ _ (sSem_inj _ _ (SemLoc.dma.inj h.choose_spec))).symm
theorem not_isR_s : ¬ IsR (.dma (sSem (cpi i)) : SemLoc sig) := fun ⟨_, h⟩ => sSem_ne_rSem _ _ (SemLoc.dma.inj h)
theorem not_isR_d (j : Fin 22) : ¬ IsR (.dma (dSem j) : SemLoc sig) := fun ⟨_, h⟩ => dSem_ne_rSem _ _ (SemLoc.dma.inj h)
theorem dma_ne_reg (q : DmaSem sig) : (SemLoc.dma q : SemLoc sig) ≠ .reg bSem := fun h => by cases h

theorem duties_bar : (Rd A Rs Gm).duties (barCell d) 0 = Finset.univ := by
  dsimp only [Rd]; rw [if_pos ⟨rfl, rfl⟩, if_pos rfl]
theorem duties_s : (Rd A Rs Gm).duties (sCell d i) 0 = {false} := by
  dsimp only [Rd]; rw [if_pos ⟨rfl, rfl⟩, if_neg (dma_ne_reg _), if_pos (.inl (isS_s i))]
theorem duties_r : (Rd A Rs Gm).duties (rCell d i) 0 = {false} := by
  dsimp only [Rd]; rw [if_pos ⟨rfl, rfl⟩, if_neg (dma_ne_reg _), if_pos (.inr (isR_r i))]
theorem duties_later (g : GSem nD τ sig) : ∀ r, 1 ≤ r → (Rd A Rs Gm).duties g r = ∅ :=
  fun r hr => by dsimp only [Rd]; rw [if_neg (fun h => by omega)]

theorem amount_bar (b : Bool) : (Rd A Rs Gm).amount (barCell d) 0 b = 1 := by dsimp only [Rd]; exact if_pos rfl
theorem amount_s (b : Bool) : (Rd A Rs Gm).amount (sCell d i) 0 b = N := by dsimp only [Rd]; exact if_neg (dma_ne_reg _)
theorem amount_r (b : Bool) : (Rd A Rs Gm).amount (rCell d i) 0 b = N := by dsimp only [Rd]; exact if_neg (dma_ne_reg _)

theorem expect_bar : (Rd A Rs Gm).expect (barCell d) 0 = 2 := by
  unfold Schedule.expect Schedule.amountOf
  rw [duties_bar, Finset.sum_congr rfl (fun b _ => amount_bar A Rs Gm d b)]; rfl
theorem expect_s : (Rd A Rs Gm).expect (sCell d i) 0 = N := by
  unfold Schedule.expect Schedule.amountOf; rw [duties_s, Finset.sum_singleton, amount_s]
theorem expect_r : (Rd A Rs Gm).expect (rCell d i) 0 = N := by
  unfold Schedule.expect Schedule.amountOf; rw [duties_r, Finset.sum_singleton, amount_r]

theorem payload_bar (b : Bool) : (Rd A Rs Gm).payload (barCell d) 0 b = barPay d b := by dsimp only [Rd]; exact if_pos rfl
theorem payload_s (b : Bool) : (Rd A Rs Gm).payload (sCell d i) 0 b = sendPay A Rs Gm d i := by
  dsimp only [Rd]; rw [if_neg (dma_ne_reg _), dif_neg (not_isR_s i), dif_pos (isS_s i), isS_choose]
theorem payload_r (b : Bool) : (Rd A Rs Gm).payload (rCell d i) 0 b = recvPay A Rs Gm d i := by
  dsimp only [Rd]; rw [if_neg (dma_ne_reg _), dif_pos (isR_r i), isR_choose]

theorem rest_s : bigSep ((Rd A Rs Gm).duties (sCell d i) 0 \ ∅) (fun b => (Rd A Rs Gm).payload (sCell d i) 0 b) = sendPay A Rs Gm d i := by
  rw [Finset.sdiff_empty, duties_s, bigSep_singleton, payload_s]
theorem rest_r : bigSep ((Rd A Rs Gm).duties (rCell d i) 0 \ ∅) (fun b => (Rd A Rs Gm).payload (rCell d i) 0 b) = recvPay A Rs Gm d i := by
  rw [Finset.sdiff_empty, duties_r, bigSep_singleton, payload_r]
theorem rest_bar : bigSep ((Rd A Rs Gm).duties (barCell d) 0 \ ∅) (fun b => (Rd A Rs Gm).payload (barCell d) 0 b)
    ⊢ iprop(barPay d false ∗ barPay d true) := by
  have hu : (Finset.univ : Finset Bool) = insert false {true} := by decide
  rw [Finset.sdiff_empty, duties_bar, hu, bigSep_insert (by decide), bigSep_singleton, payload_bar, payload_bar]
  exact .rfl

end Sched

/-! ## Debts and levels -/

/-- What device `d` owes the landing cells of its partners from the `n`-th copy on. -/
def Of (d : Dev nD) (n : ℕ) : CellTallies nD τ sig Unit :=
  ∑ i ∈ Finset.univ.filter (fun i : Cp => n ≤ ord i), tallyAt (rCell (peer d i) i) () N

theorem Of_step (d : Dev nD) (i : Cp) : Of d (ord i) = Of d (ord i + 1) + tallyAt (rCell (peer d i) i) () N := by
  have h : Finset.univ.filter (fun j : Cp => ord i ≤ ord j) = insert i (Finset.univ.filter fun j : Cp => ord i + 1 ≤ ord j) := by
    ext j
    simp only [Finset.mem_filter, Finset.mem_univ, true_and, Finset.mem_insert]
    constructor
    · intro h
      by_cases e : j = i
      · exact .inl e
      · exact .inr (Nat.lt_of_le_of_ne h fun h' => e (ord_inj _ _ h'.symm))
    · rintro (rfl | h) <;> omega
  unfold Of
  rw [h, Finset.sum_insert (by simp), add_comm]

theorem Of_last (d : Dev nD) : Of d 24 = 0 := by
  have h : Finset.univ.filter (fun j : Cp => 24 ≤ ord j) = ∅ := by decide +kernel
  unfold Of; rw [h, Finset.sum_empty]

theorem Of_pos {d : Dev nD} {n : ℕ} {g : GSem nD τ sig} {u : Unit} (h : 0 < Of d n g u) : ∃ i : Cp, n ≤ ord i ∧ g = rCell (peer d i) i := by
  unfold Of at h
  rw [Finset.sum_apply, Finsupp.finset_sum_apply] at h
  obtain ⟨i, hi, hne⟩ := Finset.exists_ne_zero_of_sum_ne_zero (Nat.pos_iff_ne_zero.mp h)
  rw [tallyAt_apply] at hne
  refine ⟨i, (Finset.mem_filter.mp hi).2, ?_⟩
  by_contra hg
  exact hne (if_neg fun hh => hg hh.1)

/-- What it owes at launch: a unit to each partner's barrier, and all its copies. -/
def Oall (d : Dev nD) : CellTallies nD τ sig Unit :=
  Of d 0 + tallyAt (barCell (dev2 d)) () 1 + tallyAt (barCell (dev1 d)) () 1

def L (g : GSem nD τ sig) : Finset Unit := if g.1.2 = .tc then {()} else ∅
open Classical in
/-- Barriers at 1, landings at 2 and their phase, everything else at 0. -/
def lv (g : GSem nD τ sig) (_ : Unit) : ℕ :=
  if g.2 = .reg bSem then 1 else if h : IsR g.2 then 2 + h.choose.1.val else 0

theorem L_of_ne (g : GSem nD τ sig) (h : g.1.2 ≠ .tc) : L g = ∅ := if_neg h
theorem L_tc (d : Dev nD) (q : SemLoc sig) : L ((d : Thread nD τ), q) = {()} := if_pos rfl
theorem lv_bar (d : Dev nD) : lv (barCell d) () = 1 := if_pos rfl
theorem lv_r (d : Dev nD) (i : Cp) : lv (rCell d i) () = 2 + i.1.val := by
  dsimp only [lv]; rw [if_neg (dma_ne_reg _), dif_pos (isR_r i), isR_choose]
theorem lv_s (d : Dev nD) (i : Cp) : lv (sCell d i) () = 0 := by
  dsimp only [lv]; rw [if_neg (dma_ne_reg _), dif_neg (not_isR_s i)]
theorem lv_d (d : Dev nD) (j : Fin 22) : lv ((d : Thread nD τ), .dma (dSem j)) () = 0 := by
  dsimp only [lv]; rw [if_neg (dma_ne_reg _), dif_neg (not_isR_d j)]

/-- A device may wait on a cell of its own whose level is under those of all it still owes. -/
theorem mayWait (d : Dev nD) (q : SemLoc sig) (n l : ℕ) (hl : lv ((d : Thread nD τ), q) () = l)
    (hn : ∀ i : Cp, n ≤ ord i → l < 2 + i.1.val) :
    (levAts L lv : sProp 𝕄) ⊢ MayWait (d : Thread nD τ) q () (Of d n) :=
  MayOwe.of_cut (L := L) (lev := lv) l (fun p hp => by rw [Finset.mem_singleton.mp hp, L_tc]; exact Finset.mem_singleton_self _)
    (fun g u hg => by obtain ⟨i, -, rfl⟩ := Of_pos hg; rw [L_tc]; exact Finset.mem_singleton_self _)
    (fun p hp => by rw [Finset.mem_singleton.mp hp]; exact hl.le)
    (fun g u hg => by obtain ⟨i, hi, rfl⟩ := Of_pos hg; exact (hn i hi).trans_eq (lv_r _ i).symm)

end Cert.KernelIdeal.Hand

end
-- ==== Proof.KernelIdeal.Step.lean ====
module

public import proofs.«01_k».proof.Proof.KernelIdeal.Proto

/-!
# Single operations

Each operation of the body on owned rows: loads and stores of a rectangle owned alone, local copies, remote copies under
the schedule, and the two waits that follow a remote copy.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A program of device `d`'s TensorCore run to `Q`. -/
abbrev WP (d : Dev nD) (p : TP F) (Q : PUnit → sProp 𝕄) : sProp 𝕄 :=
  wp frame (wpE (defs₀ (F := F)) 𝒱₀ (d : Thread nD τ) none) Set.univ p Q

variable {d : Dev nD} {Q : PUnit.{1} → sProp (MT nD τ sig Unit (Elt F) ℕ UU ℕ)}

/-- Elements just written are owned at what was written. -/
theorem own_written {sp : Space} {sh : Shape} {e : EltTy} (m : Memref sig .tc sp sh e) (g : m.view.ty.Contents (Elt F)) (w : sh.Idx → Elt F e) :
    (m.view.loc (d : Thread nD τ) ↦[m.view.set]{fullShare} (m.view.write (Elt F) g w Finset.univ) : sProp 𝕄) ⊢ own d m w := by
  have h := owns_intro (d : Thread nD τ) m fullShare (m.view.write (Elt F) g w Finset.univ) (Ix := Unit) (Name := ℕ) (U := UU) (Lvl := ℕ)
  rw [View.read_write_univ] at h
  exact h

/-- A load of rows owned. -/
theorem ld {cs : CoreSpace} {sh : Shape} {e : EltTy} {m : Memref sig .tc cs sh e} {r : Rect sh} {hl : m.view.LoadsAt r.toLoadRect}
    {hr : ∀ a, r.stride a = 1} {X : r.shape.Idx → Elt F e} {k : (r.shape.Idx → Elt F e) → TP F} :
    own d (m.slice r hr) X ⊢ iprop((own d (m.slice r hr) X -∗ WP d (k X) Q) -∗ WP d (.op (.load m r.toLoadRect hl) k) Q) := by
  unfold own owns
  iintro ⟨%f, %hf, H⟩ Hk
  subst hf
  iapply (wp_load_rect 𝒱₀ (d : Thread nD τ) none Set.univ (m := m) (r := r) (hl := hl) (S := (m.slice r hr).view.set) (f := f) subset_rfl) $$ H
  iintro H
  iapply Hk
  iexists f
  isplitr; · ipureintro; rfl
  iexact H

/-- A store over rows owned. -/
theorem st {cs : CoreSpace} {sh : Shape} {e : EltTy} {m : Memref sig .tc cs sh e} {r : Rect sh} {w : r.shape.Idx → Elt F e}
    {hx : (m.access r).Stores Finset.univ} {hm : Finset.univ = Finset.univ ∨ ∀ a, r.stride a = 1}
    {hr : ∀ a, r.stride a = 1} {k : PUnit → TP F} :
    ownA d (m.slice r hr) ⊢ iprop((own d (m.slice r hr) w -∗ WP d (k ⟨⟩) Q) -∗ WP d (.op (.store m r w Finset.univ hx hm) k) Q) := by
  unfold ownA own owns
  iintro ⟨%X, %f, -, H⟩ Hk
  iapply (wp_store 𝒱₀ (d : Thread nD τ) none Set.univ (m := m) (r := r) (hx := hx) (S := (m.slice r hr).view.set) (f := f) subset_rfl) $$ H
  iintro H
  iapply Hk
  have h := own_written (d := d) (m.slice r hr) f w
  unfold own owns at h
  iapply h
  iexact H

/-! ## Local copies -/

/-- A local copy of device `d` on its `j`-th local semaphore under way: it brings the destination at `X` and the source. -/
def Fly (d : Dev nD) (j : Fin 22) (N : ℕ) (D : sProp 𝕄) : sProp 𝕄 :=
  Transfers.Flight (countersEmb : UEmb Counters 𝕄) (d : Thread nD τ) (.dma (dSem j)) () N D

/-- What a device still owes, from the `n`-th copy on. -/
def owesAt (d : Dev nD) (n : ℕ) : sProp 𝕄 := iprop(levAts L lv ∗ ∃ W, owes (d : Thread nD τ) (Of d n) W)

theorem startLocal {sp sp' : Space} {sh : Shape} {e : EltTy} {src : Memref sig .tc sp sh e} {dst : Memref sig .tc sp' sh e} {j : Fin 22}
    {hs : src.view.WordExact} {hd : dst.view.WordExact} {hsem : DmaTarget.Typed (nD := nD) (τ := τ) (sig := sig) (p := Proc.tc) sp (.dma (dSem j)) (.here dst)}
    {X : sh.Idx → Elt F e} {k : PUnit → TP F} (hN0 : 0 < dst.view.dmaCredit) :
    iprop(own d src X ∗ ownA d dst ∗ semVal ((d : Thread nD τ), .dma (dSem j)) 0)
      ⊢ iprop((Fly d j dst.view.dmaCredit iprop(own d src X ∗ own d dst X) -∗ WP d (k ⟨⟩) Q)
        -∗ WP d (.op (.enqueueDma src (.here dst) (.dma (dSem j)) hs hd hsem) k) Q) := by
  unfold ownA own owns
  iintro ⟨⟨%f, %hf, H⟩, ⟨%Y, %g, -, Hg⟩, Hv⟩ Hk
  subst hf
  iapply (Transfers.wp_dmaLocal (countersEmb : UEmb Counters 𝕄) 𝒱₀ (d : Thread nD τ) none () dst.view.dmaCredit rfl hN0 subset_rfl) $$ [H Hg Hv]
  · isplitl [H]; · iexact H
    isplitl [Hg]; · iexact Hg
    iexact Hv
  iintro HF
  iapply Hk
  unfold Fly
  iapply (Transfers.Flight_mono (countersEmb : UEmb Counters 𝕄)) $$ HF
  iintro ⟨Hg, H⟩
  isplitl [H]
  · iexists f
    isplitr; · ipureintro; rfl
    iexact H
  have h := own_written (d := d) dst g (src.view.read (Elt F) f)
  unfold own owns at h
  iapply h
  iexact Hg

theorem waitLocal {sp sp' : Space} {sh : Shape} {e : EltTy} {src : Memref sig .tc sp sh e} {dst : Memref sig .tc sp' sh e} {j : Fin 22}
    {hs : src.view.WordExact} {hd : dst.view.WordExact} {k : PUnit → TP F} {n : ℕ} {D : sProp 𝕄} :
    iprop(Fly d j dst.view.dmaCredit D ∗ owesAt d n)
      ⊢ iprop((iprop(D ∗ semVal ((d : Thread nD τ), .dma (dSem j)) 0 ∗ owesAt d n) -∗ WP d (k ⟨⟩) Q)
        -∗ WP d (.op (.waitDma2 (dSem j) src dst hs hd) k) Q) := by
  unfold Fly owesAt
  iintro ⟨HF, #Hlev, ⟨%W, HO⟩⟩ Hk
  iapply (Transfers.wp_waitLocalO (countersEmb : UEmb Counters 𝕄) 𝒱₀ (d : Thread nD τ) none () rfl (O := Of d n) (W := W)) $$ [HF HO]
  · isplitl [HF]; · iexact HF
    isplitl [HO]; · iexact HO
    iapply (mayWait d (.dma (dSem j)) n 0 (lv_d d j) (fun i _ => by omega))
    iexact Hlev
  iintro ⟨HD, Hv, HO⟩
  iapply Hk
  isplitl [HD]; · iexact HD
  isplitl [Hv]; · iexact Hv
  isplitr; · iexact Hlev
  iexists _; iexact HO

/-! ## Remote copies -/

section Remote
variable (A Rs : Dev nD → S1024x1024.Idx → Elt F .f32) (Gm : Dev nD → S1x1024.Idx → Elt F .f32) (K : GSem nD τ sig → ℕ)

/-- What a device sends copy `i` with. -/
def Snd (d : Dev nD) (i : Cp) : sProp 𝕄 :=
  iprop(cellInv ER (Rd A Rs Gm) (K (sCell d i)) (sCell d i) ∗ cellInv ER (Rd A Rs Gm) (K (rCell (peer d i) i)) (rCell (peer d i) i)
    ∗ dutyTok ER (sCell d i) 0 false ∗ reached ER (sCell d i) 0 ∗ dutyTok ER (rCell (peer d i) i) 0 false)
/-- What it waits for its source and for its own landing with. -/
def Rcv (d : Dev nD) (i : Cp) : sProp 𝕄 :=
  iprop(cellInv ER (Rd A Rs Gm) (K (sCell d i)) (sCell d i) ∗ cellInv ER (Rd A Rs Gm) (K (rCell d i)) (rCell d i)
    ∗ atPos ER (sCell d i) 0 ∅ 0 ∗ atPos ER (rCell d i) 0 ∅ 0 ∗ cred (tallyAt (rCell d i) () N))
/-- That the source's return is to come; -/
def Sent (d : Dev nD) (i : Cp) : sProp 𝕄 := cred (tallyAt (sCell d i) () N)
/-- both counters at zero again. -/
def Zero (d : Dev nD) (i : Cp) : sProp 𝕄 := iprop(semVal (sCell d i) 0 ∗ semVal (rCell d i) 0)

theorem send {src dst : Memref sig .tc .vmem S64x1024 .bf16} (i : Cp)
    {hs : src.view.WordExact} {hd : dst.view.WordExact}
    {hsem : DmaTarget.Typed (nD := nD) (τ := τ) (sig := sig) (p := Proc.tc) .vmem (.dma (rSem (cpi i))) (.remote (Dev.tc (peer d i)) dst (.dma (sSem (cpi i))))}
    {X : S64x1024.Idx → Elt F .bf16} {k : PUnit → TP F}
    (h₁ : own d src X ⊢ sendPay A Rs Gm d i) (h₂ : own (peer d i) dst X ⊢ recvPay A Rs Gm (peer d i) i) :
    iprop(Snd A Rs Gm K d i ∗ own d src X ∗ ownA (peer d i) dst ∗ reached ER (rCell (peer d i) i) 0 ∗ owesAt d (ord i))
      ⊢ iprop((iprop(Sent d i ∗ owesAt d (ord i + 1)) -∗ WP d (k ⟨⟩) Q)
        -∗ WP d (.op (.enqueueDma src (.remote (Dev.tc (peer d i)) dst (.dma (sSem (cpi i)))) (.dma (rSem (cpi i))) hs hd hsem) k) Q) := by
  unfold Snd owesAt ownA
  unfold own owns at h₁ h₂ ⊢
  iintro ⟨⟨#HI, #HI', HtS, #HrS, HtR⟩, ⟨%f, %hf, H⟩, ⟨%Y, %g, -, Hg⟩, #HrR, #Hlev, ⟨%W, HO⟩⟩ Hk
  subst hf
  iapply (Rounds.wp_send_pointsTo 𝒱₀ ER (Rd A Rs Gm) (d : Thread nD τ) none (c' := (peer d i : Thread nD τ)) (src := src) (dst := dst)
      (sS := .dma (sSem (cpi i))) (sem := .dma (rSem (cpi i))) (q := fullShare) (fs := f) (κ₁ := K (sCell d i)) (κ₂ := K (rCell (peer d i) i))
      (r₁ := 0) (r₂ := 0) (d₁ := false) (d₂ := false) (fd := g)
      (by rw [duties_s]; exact Finset.mem_singleton_self _) (by rw [duties_r]; exact Finset.mem_singleton_self _)
      () () N rfl (amount_s A Rs Gm d i false) (amount_r A Rs Gm (peer d i) i false) (Of d (ord i + 1)) (Of_step d i) (W := W)
      (by rw [payload_s]; exact (owns_intro (d : Thread nD τ) src fullShare f).trans h₁)
      (by rw [payload_r]; exact (own_written dst g _).trans h₂)) $$ [H Hg HO HtS HtR]
  · isplitr; · iexact HI
    isplitr; · iexact HI'
    isplitl [H]; · iexact H
    isplitl [Hg]; · iexact Hg
    isplitl [HO]; · iexact HO
    isplitl [HtS]; · iexact HtS
    isplitr; · iexact HrS
    isplitl [HtR]; · iexact HtR
    iexact HrR
  iintro ⟨Hc, HO⟩
  iapply Hk
  isplitl [Hc]; · unfold Sent; iexact Hc
  isplitr; · iexact Hlev
  iexists _; iexact HO

/-- The same, the source going with the landing. -/
theorem sendAll {src dst : Memref sig .tc .vmem S64x1024 .bf16} (i : Cp)
    {hs : src.view.WordExact} {hd : dst.view.WordExact}
    {hsem : DmaTarget.Typed (nD := nD) (τ := τ) (sig := sig) (p := Proc.tc) .vmem (.dma (rSem (cpi i))) (.remote (Dev.tc (peer d i)) dst (.dma (sSem (cpi i))))}
    {X : S64x1024.Idx → Elt F .bf16} {k : PUnit → TP F}
    (h₁ : emp ⊢ sendPay A Rs Gm d i) (h₂ : iprop(own (peer d i) dst X ∗ own d src X) ⊢ recvPay A Rs Gm (peer d i) i) :
    iprop(Snd A Rs Gm K d i ∗ own d src X ∗ ownA (peer d i) dst ∗ reached ER (rCell (peer d i) i) 0 ∗ owesAt d (ord i))
      ⊢ iprop((iprop(Sent d i ∗ owesAt d (ord i + 1)) -∗ WP d (k ⟨⟩) Q)
        -∗ WP d (.op (.enqueueDma src (.remote (Dev.tc (peer d i)) dst (.dma (sSem (cpi i)))) (.dma (rSem (cpi i))) hs hd hsem) k) Q) := by
  unfold Snd owesAt ownA
  unfold own owns at h₂ ⊢
  iintro ⟨⟨#HI, #HI', HtS, #HrS, HtR⟩, ⟨%f, %hf, H⟩, ⟨%Y, %g, -, Hg⟩, #HrR, #Hlev, ⟨%W, HO⟩⟩ Hk
  subst hf
  iapply (Rounds.wp_send_landing_pointsTo 𝒱₀ ER (Rd A Rs Gm) (d : Thread nD τ) none (c' := (peer d i : Thread nD τ)) (src := src) (dst := dst)
      (sS := .dma (sSem (cpi i))) (sem := .dma (rSem (cpi i))) (q := fullShare) (fs := f) (κ₁ := K (sCell d i)) (κ₂ := K (rCell (peer d i) i))
      (r₁ := 0) (r₂ := 0) (d₁ := false) (d₂ := false) (fd := g)
      (by rw [duties_s]; exact Finset.mem_singleton_self _) (by rw [duties_r]; exact Finset.mem_singleton_self _)
      () () N rfl (amount_s A Rs Gm d i false) (amount_r A Rs Gm (peer d i) i false) (Of d (ord i + 1)) (Of_step d i) (W := W)
      (by rw [payload_s]; exact h₁)
      (by rw [payload_r]; exact (BI.sep_mono (own_written dst g _) (owns_intro (d : Thread nD τ) src fullShare f)).trans h₂)) $$ [H Hg HO HtS HtR]
  · isplitr; · iexact HI
    isplitr; · iexact HI'
    isplitl [H]; · iexact H
    isplitl [Hg]; · iexact Hg
    isplitl [HO]; · iexact HO
    isplitl [HtS]; · iexact HtS
    isplitr; · iexact HrS
    isplitl [HtR]; · iexact HtR
    iexact HrR
  iintro ⟨Hc, HO⟩
  iapply Hk
  isplitl [Hc]; · unfold Sent; iexact Hc
  isplitr; · iexact Hlev
  iexists _; iexact HO

theorem closeCell (κ : ℕ) (g : GSem nD τ sig) :
    iprop(cellInv ER (Rd A Rs Gm) κ g ∗ atPos ER g (0 + 1) ∅ 0) ⊢ (|={Set.univ}=> semVal g 0 : sProp 𝕄) :=
  Rounds.cell_close ER (Rd A Rs Gm) (Set.mem_univ κ) id (duties_later A Rs Gm g)

/-- The two waits after a copy: for the source, then for the own landing. -/
theorem waits {src dst : Memref sig .tc .vmem S64x1024 .bf16} {src' dst' : Memref sig .tc .vmem S64x1024 .bf16} (i : Cp) (n : ℕ)
    {hs : src.view.WordExact} {hd : dst.view.WordExact} {hs' : src'.view.WordExact} {hd' : dst'.view.WordExact} {k : PUnit → TP F}
    (hn : ∀ j : Cp, n ≤ ord j → 2 + i.1.val < 2 + j.1.val) :
    iprop(Rcv A Rs Gm K d i ∗ Sent d i ∗ owesAt d n)
      ⊢ iprop((iprop(sendPay A Rs Gm d i ∗ recvPay A Rs Gm d i ∗ Zero d i ∗ owesAt d n) -∗ WP d (k ⟨⟩) Q)
        -∗ WP d (.op (.waitDma2 (sSem (cpi i)) src dst hs hd) fun _ => .op (.waitDma2 (rSem (cpi i)) src' dst' hs' hd') k) Q) := by
  unfold Rcv Sent owesAt Zero
  have e₁ : 0 + dst.view.dmaCredit = (Rd A Rs Gm).expect (sCell d i) 0 := (Nat.zero_add _).trans (expect_s A Rs Gm d i).symm
  have e₂ : 0 + dst'.view.dmaCredit = (Rd A Rs Gm).expect (rCell d i) 0 := (Nat.zero_add _).trans (expect_r A Rs Gm d i).symm
  iintro ⟨⟨#HI, #HI', HatS, HatR, HcR⟩, HcS, #Hlev, ⟨%W, HO⟩⟩ Hk
  iapply (Rounds.wp_wait_rest_token 𝒱₀ ER (Rd A Rs Gm) (d : Thread nD τ) none (κ := K (sCell d i))
      (wpE_waitDma2_eq (src := src) (dst := dst) 𝒱₀ (d : Thread nD τ) none Set.univ) (Set.mem_univ _) () (O := Of d n) (W := W) (R := 0) (m := 0) (T := ∅)
      e₁) $$ [HcS HO HatS]
  · isplitr; · iexact HI
    isplitl [HcS]; · iexact HcS
    isplitl [HO]; · iexact HO
    isplitr
    · iapply (mayWait d (.dma (sSem (cpi i))) n 0 (lv_s d i) (fun j _ => by omega)); iexact Hlev
    iexact HatS
  iintro ⟨HO, HatS, -, Hpay⟩
  ihave Hp := (Entails.of_eq (rest_s A Rs Gm d i)) $$ Hpay
  iapply (Rounds.wp_wait_rest_token 𝒱₀ ER (Rd A Rs Gm) (d : Thread nD τ) none (κ := K (rCell d i))
      (wpE_waitDma2_eq (src := src') (dst := dst') 𝒱₀ (d : Thread nD τ) none Set.univ) (Set.mem_univ _) () (O := Of d n) (R := 0) (m := 0) (T := ∅)
      e₂) $$ [HcR HO HatR]
  · isplitr; · iexact HI'
    isplitl [HcR]; · iexact HcR
    isplitl [HO]; · iexact HO
    isplitr
    · iapply (mayWait d (.dma (rSem (cpi i))) n (2 + i.1.val) (lv_r d i) hn); iexact Hlev
    iexact HatR
  iintro ⟨HO, HatR, -, Hpay⟩
  ihave Hp' := (Entails.of_eq (rest_r A Rs Gm d i)) $$ Hpay
  imod (closeCell A Rs Gm (K (sCell d i)) (sCell d i)) $$ [HatS] with Hs0
  · isplitr; · iexact HI
    iexact HatS
  imod (closeCell A Rs Gm (K (rCell d i)) (rCell d i)) $$ [HatR] with Hr0
  · isplitr; · iexact HI'
    iexact HatR
  iapply Hk
  isplitl [Hp]; · iexact Hp
  isplitl [Hp']; · iexact Hp'
  isplitl [Hs0 Hr0]
  · isplitl [Hs0]; · iexact Hs0
    iexact Hr0
  isplitr; · iexact Hlev
  iexists _; iexact HO

end Remote

end Cert.KernelIdeal.Hand

end
-- ==== Proof.KernelIdeal.Chunk.lean ====
module

public import proofs.«01_k».proof.Proof.KernelIdeal.Step

/-!
# The steps on a chunk

What each step of the body does to the rows of one chunk of one stream, for either stream and any chunk.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {Q : PUnit.{1} → sProp (MT nD τ sig Unit (Elt F) ℕ UU ℕ)}

theorem retW {d : Dev nD} : Q ⟨⟩ ⊢ WP d (.ret ⟨⟩) Q := by
  rw [WP, wp_ret]
  iintro H
  imodintro
  iexact H

theorem own_any {d : Dev nD} {sp : Space} {sh : Shape} {e : EltTy} {m : Memref sig .tc sp sh e} {X : sh.Idx → Elt F e} :
    (own d m X : sProp 𝕄) ⊢ ownA d m := by
  iintro H; iexists X; iexact H

/-- Once all copies of a phase are started, what is owed is for later phases. -/
theorem later (i : Cp) (n : ℕ) (h : (i.1.val + 1) * 8 ≤ n) : ∀ j : Cp, n ≤ ord j → 2 + i.1.val < 2 + j.1.val := by
  intro j hj
  unfold ord at hj
  have h1 := j.2.2.isLt
  have h2 := j.2.1.toNat_le
  omega

/-- The whole of the scale's rectangle reads its contents. -/
theorem ldScale {d : Dev nD} {m : Memref sig .tc .vmem S1x1024 .f32} {hl : m.view.LoadsAt (Rect.unit (s := S1x1024) ![0, 0] S1x1024.size inb_S1x1024_S1x1024_0_0).toLoadRect}
    {X : S1x1024.Idx → Elt F .f32} {k : (S1x1024.Idx → Elt F .f32) → TP F} :
    own d m X ⊢ iprop((own d m X -∗ WP d (k X) Q) -∗ WP d (.op (.load m (Rect.unit (s := S1x1024) ![0, 0] S1x1024.size inb_S1x1024_S1x1024_0_0).toLoadRect hl) k) Q) := by
  have hid : ∀ j : S1x1024.Idx, (Rect.unit (s := S1x1024) ![0, 0] S1x1024.size inb_S1x1024_S1x1024_0_0).emb j = j := by
    intro j; funext a; apply Fin.ext
    fin_cases a
    · show 0 + 1 * (j 0).val = (j 0).val; omega
    · show 0 + 1 * (j 1).val = (j 1).val; omega
  unfold own owns
  iintro ⟨%f, %hf, H⟩ Hk
  iapply (wp_load_rect 𝒱₀ (d : Thread nD τ) none Set.univ (m := m) (r := Rect.unit (s := S1x1024) ![0, 0] S1x1024.size inb_S1x1024_S1x1024_0_0)
    (hl := hl) (S := m.view.set) (f := f) (View.set_slice_subset _ _)) $$ H
  iintro H
  have e : (m.access (Rect.unit (s := S1x1024) ![0, 0] S1x1024.size inb_S1x1024_S1x1024_0_0)).read (Elt F) f = X := by
    rw [← hf]; funext j
    show m.view.read (Elt F) f ((Rect.unit (s := S1x1024) ![0, 0] S1x1024.size inb_S1x1024_S1x1024_0_0).emb j) = _
    rw [hid]
  rw [e]
  iapply Hk
  iexists f
  isplitr; · ipureintro; exact hf
  iexact H

variable (A Rs : Dev nD → S1024x1024.Idx → Elt F .f32) (Gm : Dev nD → S1x1024.Idx → Elt F .f32) (K : GSem nD τ sig → ℕ)
variable (gV : Memref sig .tc .vmem S1x1024 .f32) (d : Dev nD) (s : Bool) (r : Fin 4)

/-- Before and after phase 0's step. -/
def pre0 : sProp 𝕄 :=
  iprop(own d (mG d s r xV) (xG A d s r) ∗ ownA d (mG d s r wV) ∗ room0 d s r ∗ Snd A Rs Gm K d (0, s, r))
def post0 : sProp 𝕄 :=
  iprop(own d (mG d s r xV) (xG A d s r) ∗ Sent d (0, s, r) ∗ reached ER (rCell (devP d s) (2, s, r)) 0)

theorem give0_spec :
    iprop(pre0 A Rs Gm K d s r ∗ owesAt d (0 * 8 + (2 * r.val + s.toNat)) ∗ (iprop(post0 A d s r ∗ owesAt d (0 * 8 + (2 * r.val + s.toNat + 1))) -∗ Q ⟨⟩))
      ⊢ WP d (give0 d s r) Q := by
  unfold give0 pre0 post0 room0
  simp only [Prog.lift, Prog.bind_op, Prog.bind_ret]
  iintro ⟨⟨Hx, Hw, ⟨Hl, #Hr0, #Hr2⟩, Hs⟩, HO, Hk⟩
  iapply ld $$ Hx
  iintro Hx
  icases Hw with ⟨%Y, Hw⟩
  iapply ld $$ Hw
  iintro Hw
  iapply st $$ [Hw]
  · iexists _; iexact Hw
  iintro Hw
  iapply (sendAll A Rs Gm K (d := d) (0, s, r) (X := G0 A d s r) (dst := mL s r false) .rfl
    (by dsimp only [recvPay, peer]; rw [if_neg (by decide), devP_devP]
        exact BI.sep_mono (BI.Entails.refl _) ((Entails.of_eq (own_rows d wV _ (inbK (devP d s) s r) (by rw [offK_eq_offG, devP_devP]) _)).trans own_any)))
    $$ [Hs Hw Hl HO]
  · isplitl [Hs]; · iexact Hs
    isplitl [Hw]; · iexact Hw
    isplitl [Hl]; · iexact Hl
    isplitr; · iexact Hr0
    iexact HO
  iintro ⟨Hc, HO⟩
  iapply retW
  iapply Hk
  isplitl [Hx Hc]
  · isplitl [Hx]; · iexact Hx
    isplitl [Hc]; · iexact Hc
    iexact Hr2
  iexact HO

/-- Before and after phase 1's. -/
def pre1 : sProp 𝕄 :=
  iprop(Rcv A Rs Gm K d (0, s, r) ∗ Sent d (0, s, r) ∗ own d (mK d s r wV) (K0 A d s r) ∗ room1 d s r ∗ Snd A Rs Gm K d (1, s, r))
def post1 : sProp 𝕄 :=
  iprop(Zero d (0, s, r) ∗ ownA d (mL s r false) ∗ ownA (devP d s) (mK d s r wV) ∗ Sent d (1, s, r))

theorem sum1_spec :
    iprop(pre1 A Rs Gm K d s r ∗ owesAt d (1 * 8 + (2 * r.val + s.toNat)) ∗ (iprop(post1 d s r ∗ owesAt d (1 * 8 + (2 * r.val + s.toNat + 1))) -∗ Q ⟨⟩))
      ⊢ WP d (sum1 d s r) Q := by
  unfold sum1 pre1 post1 room1
  simp only [Prog.lift, Prog.bind_op, Prog.bind_ret]
  iintro ⟨⟨HR, Hc, Hw, ⟨Hl, #Hr1⟩, Hs⟩, HO, Hk⟩
  iapply (waits A Rs Gm K (0, s, r) (1 * 8 + (2 * r.val + s.toNat)) (later (0, s, r) _ (by show (0 + 1) * 8 ≤ _; omega))) $$ [HR Hc HO]
  · isplitl [HR]; · iexact HR
    isplitl [Hc]; · iexact Hc
    iexact HO
  dsimp only [sendPay, recvPay]
  iintro ⟨-, ⟨Hland, Hback⟩, Hz, HO⟩
  iapply ld $$ Hw
  iintro Hw
  iapply ld $$ Hland
  iintro Hland
  iapply ld $$ Hw
  iintro Hw
  iapply st $$ [Hw]
  · iexists _; iexact Hw
  iintro Hw
  iapply (send A Rs Gm K (d := d) (1, s, r) (X := S1 A d s r) (dst := mL s r true) .rfl
    (by dsimp only [recvPay, peer]; rw [if_pos rfl, devQ_devQ])) $$ [Hs Hw Hl HO]
  · isplitl [Hs]; · iexact Hs
    isplitl [Hw]; · iexact Hw
    isplitl [Hl]; · iexact Hl
    isplitr; · iexact Hr1
    iexact HO
  iintro ⟨Hc, HO⟩
  iapply retW
  iapply Hk
  isplitr [HO]
  · isplitl [Hz]; · iexact Hz
    isplitl [Hland]; · iexists _; iexact Hland
    isplitl [Hback]; · iexact Hback
    iexact Hc
  iexact HO

/-- Before and after phase 2's, the scale apart. -/
def pre2 : sProp 𝕄 :=
  iprop(Rcv A Rs Gm K d (1, s, r) ∗ Sent d (1, s, r) ∗ own d (rV.slice (RR s r) (fun _ => rfl)) (yK Rs d s r)
    ∗ ownA d (mK d s r oV) ∗ ownA d (mK d s r oH) ∗ semVal ((d : Thread nD τ), .dma (dSem (wK s r))) 0
    ∗ ownA (devP d s) (mK d s r wV) ∗ reached ER (rCell (devP d s) (2, s, r)) 0 ∗ Snd A Rs Gm K d (2, s, r))
def post2 : sProp 𝕄 :=
  iprop(Zero d (1, s, r) ∗ ownA d (mL s r true) ∗ ownA d (rV.slice (RR s r) (fun _ => rfl)) ∗ Sent d (2, s, r)
    ∗ Fly d (wK s r) (mK d s r oH).view.dmaCredit iprop(own d (mK d s r oV) (O2 A Rs Gm d s r) ∗ own d (mK d s r oH) (O2 A Rs Gm d s r)))

theorem norm2_spec :
    iprop(pre2 A Rs Gm K d s r ∗ (owesAt d (2 * 8 + (2 * r.val + s.toNat)) ∗ own d gV (Gm d))
        ∗ (iprop(post2 A Rs Gm d s r ∗ owesAt d (2 * 8 + (2 * r.val + s.toNat + 1)) ∗ own d gV (Gm d)) -∗ Q ⟨⟩))
      ⊢ WP d (norm2 gV d s r) Q := by
  unfold norm2 pre2 post2 out
  simp only [Prog.lift, Prog.bind_op, Prog.bind_ret]
  iintro ⟨⟨HR, Hc, Hy, ⟨%Yo, Ho⟩, Hh, Hv, Hback, #Hr2, Hs⟩, ⟨HO, Hg⟩, Hk⟩
  iapply (waits A Rs Gm K (1, s, r) (2 * 8 + (2 * r.val + s.toNat)) (later (1, s, r) _ (by show (1 + 1) * 8 ≤ _; omega))) $$ [HR Hc HO]
  · isplitl [HR]; · iexact HR
    isplitl [Hc]; · iexact Hc
    iexact HO
  dsimp only [sendPay, recvPay]
  iintro ⟨Hw, Hland, Hz, HO⟩
  iapply ld $$ Hw
  iintro Hw
  iapply ld $$ Hland
  iintro Hland
  iapply ld $$ Hy
  iintro Hy
  iapply ldScale $$ Hg
  iintro Hg
  iapply ld $$ Hw
  iintro Hw
  iapply st $$ [Hw]
  · iexists _; iexact Hw
  iintro Hw
  iapply ld $$ Ho
  iintro Ho
  iapply st $$ [Ho]
  · iexists _; iexact Ho
  iintro Ho
  iapply (send A Rs Gm K (d := d) (2, s, r) (X := N2 A Rs Gm d s r) (dst := mK d s r wV) .rfl
    (by dsimp only [recvPay, peer]; rw [if_neg (by decide), devP_devP]
        exact Entails.of_eq (own_rows (devP d s) wV _ _ (offK_eq_offG d s r) _))) $$ [Hs Hw Hback HO]
  · isplitl [Hs]; · iexact Hs
    isplitl [Hw]; · iexact Hw
    isplitl [Hback]; · iexact Hback
    isplitr; · iexact Hr2
    iexact HO
  iintro ⟨Hc, HO⟩
  iapply (startLocal (d := d) (X := O2 A Rs Gm d s r) (View.dmaCredit_pos _ (by decide))) $$ [Ho Hh Hv]
  · isplitl [Ho]; · iexact Ho
    isplitl [Hh]; · iexact Hh
    iexact Hv
  iintro HF
  iapply retW
  iapply Hk
  isplitr [HO Hg]
  · isplitl [Hz]; · iexact Hz
    isplitl [Hland]; · iexists _; iexact Hland
    isplitl [Hy]; · iexists _; iexact Hy
    isplitl [Hc]; · iexact Hc
    iexact HF
  isplitl [HO]; · iexact HO
  iexact Hg

/-- Before and after the last step's. -/
def pre3 : sProp 𝕄 :=
  iprop(Rcv A Rs Gm K d (2, s, r) ∗ Sent d (2, s, r)
    ∗ ownA d (mG d s r oV) ∗ ownA d (mG d s r oH) ∗ semVal ((d : Thread nD τ), .dma (dSem (wG s r))) 0)
def post3 : sProp 𝕄 :=
  iprop(Zero d (2, s, r) ∗ ownA d (mK d s r wV) ∗ ownA d (mG d s r wV)
    ∗ Fly d (wG s r) (mG d s r oH).view.dmaCredit iprop(own d (mG d s r oV) (T2 A Rs Gm d s r) ∗ own d (mG d s r oH) (T2 A Rs Gm d s r)))

theorem take2_spec :
    iprop(pre3 A Rs Gm K d s r ∗ owesAt d 24 ∗ (iprop(post3 A Rs Gm d s r ∗ owesAt d 24) -∗ Q ⟨⟩))
      ⊢ WP d (take2 d s r) Q := by
  unfold take2 pre3 post3 out
  simp only [Prog.lift, Prog.bind_op, Prog.bind_ret]
  iintro ⟨⟨HR, Hc, ⟨%Yo, Ho⟩, Hh, Hv⟩, HO, Hk⟩
  iapply (waits A Rs Gm K (2, s, r) 24 (later (2, s, r) _ (by show (2 + 1) * 8 ≤ _; omega))) $$ [HR Hc HO]
  · isplitl [HR]; · iexact HR
    isplitl [Hc]; · iexact Hc
    iexact HO
  dsimp only [sendPay, recvPay]
  iintro ⟨Hw, Hland, Hz, HO⟩
  iapply ld $$ Hland
  iintro Hland
  iapply ld $$ Ho
  iintro Ho
  iapply st $$ [Ho]
  · iexists _; iexact Ho
  iintro Ho
  iapply (startLocal (d := d) (X := T2 A Rs Gm d s r) (View.dmaCredit_pos _ (by decide))) $$ [Ho Hh Hv]
  · isplitl [Ho]; · iexact Ho
    isplitl [Hh]; · iexact Hh
    iexact Hv
  iintro HF
  iapply retW
  iapply Hk
  isplitr [HO]
  · isplitl [Hz]; · iexact Hz
    isplitl [Hw]; · iexists _; iexact Hw
    isplitl [Hland]; · iexists _; iexact Hland
    iexact HF
  iexact HO

end Cert.KernelIdeal.Hand

end
-- ==== Proof.KernelIdeal.Rows.lean ====
module

public import proofs.«01_k».proof.Proof.KernelIdeal.Chunk

/-!
# The body

The steps put together: the loops over streams and chunks, the fetches, the barrier, and the whole body on one device.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {Q : PUnit.{1} → sProp (MT nD τ sig Unit (Elt F) ℕ UU ℕ)}

/-! ## All streams and chunks -/

/-- For both streams and every chunk. -/
def Each (Φ : Bool → Fin 4 → sProp 𝕄) : sProp 𝕄 := bigSep Finset.univ fun p : Bool × Fin 4 => Φ p.1 p.2
/-- For both streams. -/
abbrev Two (Φ : Bool → sProp 𝕄) : sProp 𝕄 := iprop(Φ false ∗ Φ true)

theorem Each_sep (Φ Ψ : Bool → Fin 4 → sProp 𝕄) : Each (fun s r => iprop(Φ s r ∗ Ψ s r)) = iprop(Each Φ ∗ Each Ψ) :=
  bigSep_sep' Finset.univ (fun p : Bool × Fin 4 => Φ p.1 p.2) (fun p => Ψ p.1 p.2)
theorem Each_mono {Φ Ψ : Bool → Fin 4 → sProp 𝕄} (h : ∀ s r, Φ s r ⊢ Ψ s r) : Each Φ ⊢ Each Ψ :=
  bigSep_mono fun p _ => h p.1 p.2
theorem Each_two (Φ : Bool → Fin 4 → sProp 𝕄) : Each Φ = Two (fun s => bigSep Finset.univ (Φ s)) := by
  unfold Each
  rw [bigSep_univ_prod, show (Finset.univ : Finset Bool) = insert false {true} from by decide, bigSep_insert (by decide), bigSep_singleton]
  rfl
theorem Each_list (Φ : Bool → Fin 4 → sProp 𝕄) :
    Each Φ = iprop(Φ false 0 ∗ Φ true 0 ∗ Φ false 1 ∗ Φ true 1 ∗ Φ false 2 ∗ Φ true 2 ∗ Φ false 3 ∗ Φ true 3) :=
  bigSep_univ_eq_bigSepL [(false, 0), (true, 0), (false, 1), (true, 1), (false, 2), (true, 2), (false, 3), (true, 3)]
    (by decide) (by decide) (fun p : Bool × Fin 4 => Φ p.1 p.2)

/-- The loop, from what its step does, `I n` passed from step to step. -/
theorem loop_spec {d : Dev nD} (f : Bool → Fin 4 → TP F) (Pre Post : Bool → Fin 4 → sProp 𝕄) (I : ℕ → sProp 𝕄)
    (h : ∀ (s : Bool) (r : Fin 4) (Q' : PUnit.{1} → sProp 𝕄),
      iprop(Pre s r ∗ I (2 * r.val + s.toNat) ∗ (iprop(Post s r ∗ I (2 * r.val + s.toNat + 1)) -∗ Q' ⟨⟩)) ⊢ WP d (f s r) Q') :
    iprop(Each Pre ∗ I 0 ∗ (iprop(Each Post ∗ I 8) -∗ Q ⟨⟩)) ⊢ WP d (loop f) Q := by
  have k : ∀ (s : Bool) (r : Fin 4) (n : ℕ), 2 * r.val + s.toNat = n → ∀ Q' : PUnit.{1} → sProp 𝕄,
      iprop(Pre s r ∗ I n ∗ (iprop(Post s r ∗ I (n + 1)) -∗ Q' ⟨⟩)) ⊢ WP d (f s r) Q' := by
    rintro s r _ rfl
    exact h s r
  rw [Each_list, Each_list]
  unfold loop
  simp only [WP, wp_bind]
  iintro ⟨⟨Ha, Hb, Hc, Hd, He, Hf, Hg, Hh⟩, HI, Hk⟩
  iapply (k false 0 0 rfl _)
  isplitl [Ha]; · iexact Ha
  isplitl [HI]; · iexact HI
  iintro ⟨Ha, HI⟩
  iapply (k true 0 1 rfl _)
  isplitl [Hb]; · iexact Hb
  isplitl [HI]; · iexact HI
  iintro ⟨Hb, HI⟩
  iapply (k false 1 2 rfl _)
  isplitl [Hc]; · iexact Hc
  isplitl [HI]; · iexact HI
  iintro ⟨Hc, HI⟩
  iapply (k true 1 3 rfl _)
  isplitl [Hd]; · iexact Hd
  isplitl [HI]; · iexact HI
  iintro ⟨Hd, HI⟩
  iapply (k false 2 4 rfl _)
  isplitl [He]; · iexact He
  isplitl [HI]; · iexact HI
  iintro ⟨He, HI⟩
  iapply (k true 2 5 rfl _)
  isplitl [Hf]; · iexact Hf
  isplitl [HI]; · iexact HI
  iintro ⟨Hf, HI⟩
  iapply (k false 3 6 rfl _)
  isplitl [Hg]; · iexact Hg
  isplitl [HI]; · iexact HI
  iintro ⟨Hg, HI⟩
  iapply (k true 3 7 rfl _)
  isplitl [Hh]; · iexact Hh
  isplitl [HI]; · iexact HI
  iintro ⟨Hh, HI⟩
  iapply Hk
  isplitr [HI]
  · isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    iexact Hh
  iexact HI

/-! ## 256 rows as four chunks -/

theorem RL_cover : ∀ i : S256x1024.Idx, ∃ (r : Fin 4) (j : S64x1024.Idx), (RL r).emb j = i := by
  intro i
  have h0 : (i 0).val < 256 := (i 0).isLt
  refine ⟨⟨(i 0).val / 64, by omega⟩, fun a => match a with | 0 => ⟨(i 0).val % 64, by show _ < 64; omega⟩ | 1 => i 1, ?_⟩
  funext a; apply Fin.ext
  fin_cases a
  · show 64 * ((i 0).val / 64) + 1 * ((i 0).val % 64) = (i 0).val; omega
  · show 0 + 1 * (i 1).val = (i 1).val; omega
theorem RL_inj {r r' : Fin 4} {j j' : S64x1024.Idx} (h : (RL r).emb j = (RL r').emb j') : r = r' := by
  have h0 : 64 * r.val + 1 * (j 0).val = 64 * r'.val + 1 * (j' 0).val := congrArg (fun i : S256x1024.Idx => (i 0).val) h
  have h1 : (j 0).val < 64 := (j 0).isLt
  have h2 : (j' 0).val < 64 := (j' 0).isLt
  apply Fin.ext; omega

/-- A slice of 256 rows owned is its four chunks owned. -/
theorem own_chunks {d : Dev nD} {sp : Space} {sh : Shape} {e : EltTy} (m : Memref sig .tc sp sh e) (R : Rect sh) (hR : ∀ a, R.stride a = 1)
    (R4 : Fin 4 → Rect sh) (h4 : ∀ r a, (R4 r).stride a = 1) (E : ∀ r, (R4 r).shape.Idx → R.shape.Idx)
    (he : ∀ r j, (R4 r).emb j = R.emb (E r j)) (hc : ∀ i, ∃ r j, E r j = i) (hi : ∀ r r' j j', E r j = E r' j' → r = r')
    (X : R.shape.Idx → Elt F e) :
    own d (m.slice R hR) X ⊢ bigSep Finset.univ fun r => own d (m.slice (R4 r) (h4 r)) (fun j => X (E r j)) := by
  unfold own
  conv_lhs => unfold owns
  iintro ⟨%f, %hf, H⟩
  subst hf
  have hset : (m.slice R hR).view.set = (Finset.univ : Finset (Fin 4)).biUnion fun r => (m.view.slice (R4 r)).set := by
    ext i
    rw [Finset.mem_biUnion]
    constructor
    · intro h
      rw [View.set, Finset.mem_map] at h
      obtain ⟨x, -, rfl⟩ := h
      obtain ⟨r, j, rfl⟩ := hc x
      refine ⟨r, Finset.mem_univ _, ?_⟩
      rw [View.set, Finset.mem_map]
      exact ⟨j, Finset.mem_univ _, by show m.view.emb ((R4 r).emb j) = m.view.emb (R.emb (E r j)); rw [he]⟩
    · rintro ⟨r, -, h⟩
      rw [View.set, Finset.mem_map] at h
      obtain ⟨j, -, rfl⟩ := h
      rw [View.set, Finset.mem_map]
      exact ⟨E r j, Finset.mem_univ _, by show m.view.emb (R.emb (E r j)) = m.view.emb ((R4 r).emb j); rw [he]⟩
  have hdisj : ∀ r ∈ (Finset.univ : Finset (Fin 4)), ∀ r' ∈ (Finset.univ : Finset (Fin 4)), r ≠ r' →
      Disjoint (m.view.slice (R4 r)).set (m.view.slice (R4 r')).set := by
    intro r _ r' _ hne
    rw [Finset.disjoint_left]
    intro i h h'
    rw [View.set, Finset.mem_map] at h h'
    obtain ⟨j, -, rfl⟩ := h
    obtain ⟨j', -, hj'⟩ := h'
    have h1 : m.view.emb ((R4 r').emb j') = m.view.emb ((R4 r).emb j) := hj'
    have h2 := m.view.emb.injective h1
    rw [he, he] at h2
    exact hne (hi _ _ _ _ (R.emb.injective h2)).symm
  have hpt : (m.view.loc (d : Thread nD τ) ↦[(m.slice R hR).view.set]{fullShare} f : sProp 𝕄)
      ⊢ bigSep Finset.univ fun r => owns (d : Thread nD τ) (m.slice (R4 r) (h4 r)) fullShare (fun j => (m.slice R hR).view.read (Elt F) f (E r j)) := by
    rw [hset, pointsTo_biUnion _ _ hdisj]
    refine bigSep_mono fun r _ => ?_
    have h := owns_intro (Ix := Unit) (Name := ℕ) (U := UU) (Lvl := ℕ) (d : Thread nD τ) (m.slice (R4 r) (h4 r)) fullShare f
    have e : (m.slice (R4 r) (h4 r)).view.read (Elt F) f = fun j => (m.slice R hR).view.read (Elt F) f (E r j) := by
      funext j
      show m.view.read (Elt F) f ((R4 r).emb j) = m.view.read (Elt F) f (R.emb (E r j))
      rw [he]
    rw [e] at h
    exact h
  iapply hpt
  iexact H

section Chunks
variable {d : Dev nD} (s : Bool) {sp : Space} {e : EltTy} (m : Memref sig .tc sp S1024x1024 e) (X : S256x1024.Idx → Elt F e)

theorem emb_chunk {sh : Fin 2 → ℕ} {o o' : Fin 2 → ℕ} {r : Fin 4}
    (h : ∀ a, o a + S256x1024.size a ≤ sh a) (h' : ∀ a, o' a + S64x1024.size a ≤ sh a)
    (e0 : o' 0 = o 0 + 64 * r.val) (e1 : o' 1 = o 1) (j : S64x1024.Idx) :
    (Rect.unit (s := ⟨2, sh⟩) o' S64x1024.size h').emb j = (Rect.unit (s := ⟨2, sh⟩) o S256x1024.size h).emb ((RL r).emb j) := by
  funext a; apply Fin.ext
  fin_cases a
  · show o' 0 + 1 * (j 0).val = o 0 + 1 * (64 * r.val + 1 * (j 0).val); omega
  · show o' 1 + 1 * (j 1).val = o 1 + 1 * (0 + 1 * (j 1).val); omega

theorem own_G : own d (mG4 d s m) X ⊢ bigSep Finset.univ fun r => own d (mG d s r m) (fun j => X ((RL r).emb j)) :=
  own_chunks m (R256 (offG4 d s) (inbG4 d s)) (fun _ => rfl) (fun r => R64 (offG d s r) (inbG d s r)) (fun _ _ => rfl) (fun r j => (RL r).emb j)
    (fun r j => emb_chunk _ _ (by rw [offG_chunk]; rfl) (by rw [offG_chunk, offG4_col]; rfl) j)
    RL_cover (fun _ _ _ _ h => RL_inj h) X
theorem own_K : own d (mK4 d s m) X ⊢ bigSep Finset.univ fun r => own d (mK d s r m) (fun j => X ((RL r).emb j)) :=
  own_chunks m (R256 (offK4 d s) (inbK4 d s)) (fun _ => rfl) (fun r => R64 (offK d s r) (inbK d s r)) (fun _ _ => rfl) (fun r j => (RL r).emb j)
    (fun r j => emb_chunk _ _ (by rw [offK_chunk]; rfl) (by rw [offK_chunk, offK4_col]; rfl) j)
    RL_cover (fun _ _ _ _ h => RL_inj h) X
theorem own_R (X : S256x1024.Idx → Elt F .f32) :
    own d (mR4 s) X ⊢ bigSep Finset.univ fun r => own d (rV.slice (RR s r) (fun _ => rfl)) (fun j => X ((RL r).emb j)) :=
  own_chunks rV (RR256 s) (fun _ => rfl) (fun r => RR s r) (fun _ _ => rfl) (fun r j => (RL r).emb j)
    (fun r j => emb_chunk (inbR256 s) (inbR s r) rfl rfl j)
    RL_cover (fun _ _ _ _ h => RL_inj h) X
end Chunks

end Cert.KernelIdeal.Hand

end
-- ==== Proof.KernelIdeal.Around.lean ====
module

public import proofs.«01_k».proof.Proof.KernelIdeal.Rows

/-!
# The body

The fetches, the barrier, the rounding of the rows kept, and the whole body on one device.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {Q : PUnit.{1} → sProp (MT nD τ sig Unit (Elt F) ℕ UU ℕ)}

/-- A local semaphore of device `d` at zero. -/
abbrev sem0 (d : Dev nD) (j : Fin 22) : sProp 𝕄 := semVal ((d : Thread nD τ), .dma (dSem j)) 0

/-! ## The fetches -/

theorem fetch_spec {d : Dev nD} {m : Memref sig .tc .hbm S256x1024 .f32} {v : Memref sig .tc .vmem S256x1024 .f32} {j : Fin 22}
    {X : S256x1024.Idx → Elt F .f32} :
    iprop((own d m X ∗ ownA d v ∗ sem0 d j) ∗ (Fly d j v.view.dmaCredit iprop(own d m X ∗ own d v X) -∗ Q ⟨⟩))
      ⊢ WP d (fetch (m := m) (v := v) j) Q := by
  unfold fetch
  simp only [Prog.lift]
  iintro ⟨H, Hk⟩
  iapply (startLocal (View.dmaCredit_pos _ (by decide))) $$ H
  iintro H
  iapply retW
  iapply Hk; iexact H

theorem fetched_spec {d : Dev nD} {m : Memref sig .tc .hbm S256x1024 .f32} {v : Memref sig .tc .vmem S256x1024 .f32} {j : Fin 22} {n : ℕ} {D : sProp 𝕄} :
    iprop(Fly d j v.view.dmaCredit D ∗ owesAt d n ∗ (iprop((D ∗ sem0 d j) ∗ owesAt d n) -∗ Q ⟨⟩))
      ⊢ WP d (fetched (m := m) (v := v) j) Q := by
  unfold fetched
  simp only [Prog.lift]
  iintro ⟨H, HO, Hk⟩
  iapply waitLocal $$ [H HO]
  · isplitl [H]; · iexact H
    iexact HO
  iintro ⟨H, Hs, HO⟩
  iapply retW
  iapply Hk
  isplitr [HO]
  · isplitl [H]; · iexact H
    iexact Hs
  iexact HO

theorem outDone_spec {d : Dev nD} {v : Memref sig .tc .vmem S64x1024 .f32} {m : Memref sig .tc .hbm S64x1024 .f32} {j : Fin 22} {n : ℕ} {D : sProp 𝕄} :
    iprop(Fly d j m.view.dmaCredit D ∗ owesAt d n ∗ (iprop((D ∗ sem0 d j) ∗ owesAt d n) -∗ Q ⟨⟩))
      ⊢ WP d (outDone (v := v) (m := m) j) Q := by
  unfold outDone
  simp only [Prog.lift]
  iintro ⟨H, HO, Hk⟩
  iapply waitLocal $$ [H HO]
  · isplitl [H]; · iexact H
    iexact HO
  iintro ⟨H, Hs, HO⟩
  iapply retW
  iapply Hk
  isplitr [HO]
  · isplitl [H]; · iexact H
    iexact Hs
  iexact HO

section Body
variable (A Rs : Dev nD → S1024x1024.Idx → Elt F .f32) (Gm : Dev nD → S1x1024.Idx → Elt F .f32) (K : GSem nD τ sig → ℕ)
variable (gV : Memref sig .tc .vmem S1x1024 .f32) (d : Dev nD)

/-- The three fetches of stream `s` before they start, -/
def ready (s : Bool) : sProp 𝕄 :=
  iprop((own d (mG4 d s xH) (xG4 A d s) ∗ ownA d (mG4 d s xV) ∗ sem0 d (fG s))
    ∗ (own d (mK4 d s xH) (xK4 A d s) ∗ ownA d (mK4 d s xV) ∗ sem0 d (fK s))
    ∗ (own d (mK4 d s rH) (yK4 Rs d s) ∗ ownA d (mR4 s) ∗ sem0 d (fR s)))
def flyG (s : Bool) : sProp 𝕄 :=
  Fly d (fG s) (mG4 d s xV).view.dmaCredit iprop(own d (mG4 d s xH) (xG4 A d s) ∗ own d (mG4 d s xV) (xG4 A d s))
def flyK (s : Bool) : sProp 𝕄 :=
  Fly d (fK s) (mK4 d s xV).view.dmaCredit iprop(own d (mK4 d s xH) (xK4 A d s) ∗ own d (mK4 d s xV) (xK4 A d s))
def flyR (s : Bool) : sProp 𝕄 :=
  Fly d (fR s) (mR4 s).view.dmaCredit iprop(own d (mK4 d s rH) (yK4 Rs d s) ∗ own d (mR4 s) (yK4 Rs d s))

/-- and under way. -/
theorem fetches_spec :
    iprop(Two (ready A Rs d) ∗ (iprop(Two (flyG A d) ∗ Two (flyK A d) ∗ Two (flyR Rs d)) -∗ Q ⟨⟩)) ⊢ WP d (fetches d) Q := by
  unfold fetches ready flyG flyK flyR
  simp only [WP, wp_bind]
  iintro ⟨⟨⟨HG, HK, HR⟩, ⟨HG', HK', HR'⟩⟩, Hk⟩
  iapply fetch_spec
  isplitl [HG]; · iexact HG
  iintro HG
  iapply fetch_spec
  isplitl [HG']; · iexact HG'
  iintro HG'
  iapply fetch_spec
  isplitl [HK]; · iexact HK
  iintro HK
  iapply fetch_spec
  isplitl [HK']; · iexact HK'
  iintro HK'
  iapply fetch_spec
  isplitl [HR]; · iexact HR
  iintro HR
  iapply fetch_spec
  isplitl [HR']; · iexact HR'
  iintro HR'
  iapply Hk
  isplitl [HG HG']
  · isplitl [HG]; · iexact HG
    iexact HG'
  isplitl [HK HK']
  · isplitl [HK]; · iexact HK
    iexact HK'
  isplitl [HR]; · iexact HR
  iexact HR'

/-! ## The barrier -/

/-- What a device passes the barrier with. -/
def Bar : sProp 𝕄 :=
  iprop(cellInv ER (Rd A Rs Gm) (K (barCell d)) (barCell d)
    ∗ (cellInv ER (Rd A Rs Gm) (K (barCell (dev1 d))) (barCell (dev1 d)) ∗ dutyTok ER (barCell (dev1 d)) 0 false ∗ reached ER (barCell (dev1 d)) 0)
    ∗ (cellInv ER (Rd A Rs Gm) (K (barCell (dev2 d))) (barCell (dev2 d)) ∗ dutyTok ER (barCell (dev2 d)) 0 true ∗ reached ER (barCell (dev2 d)) 0)
    ∗ atPos ER (barCell d) 0 ∅ 0 ∗ cred (tallyAt (barCell d) () 2))

/-- Its own rows, as its partners see them. -/
def lent0 (s : Bool) (r : Fin 4) : sProp 𝕄 := room0 (devP d s) s r
def lent1 (s : Bool) (r : Fin 4) : sProp 𝕄 := room1 (devQ d s) s r

theorem lent_bar : iprop(Each (lent0 (F := F) d) ∗ Each (lent1 d)) ⊢ iprop(barPay (dev1 d) false ∗ barPay (dev2 d) true) := by
  unfold barPay
  rw [Each_two, Each_two, bigSep_sep', bigSep_sep']
  iintro ⟨⟨H1, H2⟩, ⟨H3, H4⟩⟩
  isplitl [H1 H4]
  · isplitl [H1]; · iexact H1
    iexact H4
  isplitl [H2]; · iexact H2
  iexact H3
theorem bar_rooms : iprop(barPay (F := F) d false ∗ barPay d true) ⊢ iprop(Each (room0 d) ∗ Each (room1 d)) := by
  unfold barPay
  rw [Each_two, Each_two, bigSep_sep', bigSep_sep']
  iintro ⟨⟨H1, H4⟩, ⟨H2, H3⟩⟩
  isplitl [H1 H2]
  · isplitl [H1]; · iexact H1
    iexact H2
  isplitl [H3]; · iexact H3
  iexact H4

theorem barrier_spec :
    iprop((Bar A Rs Gm K d ∗ Each (lent0 d) ∗ Each (lent1 d) ∗ levAts L lv ∗ ∃ W, owes (d : Thread nD τ) (Oall d) W)
        ∗ (iprop(semVal (barCell d) 0 ∗ Each (room0 d) ∗ Each (room1 d) ∗ owesAt d 0) -∗ Q ⟨⟩))
      ⊢ WP d (barrier d) Q := by
  unfold barrier Bar
  simp only [semSignalWord, semWaitWord, Prog.lift, Prog.bind_op, Prog.bind_ret]
  have e : 0 + (2#32 : BitVec 32).toInt.toNat = (Rd A Rs Gm).expect (barCell d) 0 := (expect_bar A Rs Gm d).symm
  iintro ⟨⟨⟨#HI, ⟨#HI1, Ht1, #Hr1⟩, ⟨#HI2, Ht2, #Hr2⟩, Hat, Hc⟩, Hl0, Hl1, #Hlev, ⟨%W, HO⟩⟩, Hk⟩
  ihave Hp := (lent_bar d) $$ [Hl0 Hl1]
  · isplitl [Hl0]; · iexact Hl0
    iexact Hl1
  icases Hp with ⟨Hp1, Hp2⟩
  iapply (Rounds.wp_signal 𝒱₀ ER (Rd A Rs Gm) (d : Thread nD τ) none (dst := (dev1 d : Thread nD τ)) (κ := K (barCell (dev1 d))) (d := false)
      (by rw [duties_bar]; exact Finset.mem_univ _) ((amount_bar A Rs Gm (dev1 d) false).trans (by decide)) ()
      (Of d 0 + tallyAt (barCell (dev2 d)) () 1) rfl (W := W)) $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (Rd A Rs Gm) (d : Thread nD τ) none (dst := (dev2 d : Thread nD τ)) (κ := K (barCell (dev2 d))) (d := true)
      (by rw [duties_bar]; exact Finset.mem_univ _) ((amount_bar A Rs Gm (dev2 d) true).trans (by decide)) ()
      (Of d 0) rfl (W := W)) $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_wait_rest_token 𝒱₀ ER (Rd A Rs Gm) (d : Thread nD τ) none (κ := K (barCell d))
      (wpE_semWait_eq 𝒱₀ (d : Thread nD τ) none Set.univ) (Set.mem_univ _) () (O := Of d 0) (W := W) (R := 0) (m := 0) (T := ∅)
      e) $$ [Hc HO Hat]
  · isplitr; · iexact HI
    isplitl [Hc]; · iexact Hc
    isplitl [HO]; · iexact HO
    isplitr
    · iapply (mayWait d (.reg bSem) 0 1 (lv_bar d) (fun i _ => by omega)); iexact Hlev
    iexact Hat
  iintro ⟨HO, Hat, -, Hpay⟩
  ihave Hp := (rest_bar A Rs Gm d) $$ Hpay
  imod (closeCell A Rs Gm (K (barCell d)) (barCell d)) $$ [Hat] with Hv
  · isplitr; · iexact HI
    iexact Hat
  iapply retW
  iapply Hk
  isplitl [Hv]; · iexact Hv
  ihave Hr := (bar_rooms d) $$ Hp
  icases Hr with ⟨Hr0, Hr1⟩
  isplitl [Hr0]; · iexact Hr0
  isplitl [Hr1]; · iexact Hr1
  unfold owesAt
  isplitr; · iexact Hlev
  iexists _; iexact HO

/-! ## The rows kept -/

theorem keep0_spec (s : Bool) (n : ℕ) :
    iprop(flyK A d s ∗ ownA d (mK4 d s wV) ∗ owesAt d n
        ∗ (iprop((own d (mK4 d s xH) (xK4 A d s) ∗ own d (mK4 d s xV) (xK4 A d s) ∗ sem0 d (fK s))
          ∗ (bigSep Finset.univ fun r => own d (mK d s r wV) (K0 A d s r)) ∗ owesAt d n) -∗ Q ⟨⟩))
      ⊢ WP d (keep0 d s) Q := by
  unfold keep0 flyK fetched
  simp only [Prog.lift, Prog.bind_op, Prog.bind_ret]
  iintro ⟨HF, ⟨%Y, Hw⟩, HO, Hk⟩
  iapply waitLocal $$ [HF HO]
  · isplitl [HF]; · iexact HF
    iexact HO
  iintro ⟨⟨Hh, Hx⟩, Hs, HO⟩
  iapply ld $$ Hx
  iintro Hx
  iapply ld $$ Hw
  iintro Hw
  ihave Hw := own_any $$ Hw
  iapply st $$ Hw
  iintro Hw
  iapply retW
  iapply Hk
  isplitl [Hh Hx Hs]
  · isplitl [Hh]; · iexact Hh
    isplitl [Hx]; · iexact Hx
    iexact Hs
  isplitl [Hw]
  · iapply (own_K s wV _); iexact Hw
  iexact HO

end Body

end Cert.KernelIdeal.Hand

end
-- ==== Proof.KernelIdeal.Body.lean ====
module

public import proofs.«01_k».proof.Proof.KernelIdeal.Around

/-!
# The whole body

What the body is run with on device `d`, what it leaves, and that it does.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {Q : PUnit.{1} → sProp (MT nD τ sig Unit (Elt F) ℕ UU ℕ)}

section Body
variable (A Rs : Dev nD → S1024x1024.Idx → Elt F .f32) (Gm : Dev nD → S1x1024.Idx → Elt F .f32) (K : GSem nD τ sig → ℕ)
variable (gV : Memref sig .tc .vmem S1x1024 .f32) (d : Dev nD)

/-- The cells' share of what the body is run with; -/
def Cells : sProp 𝕄 :=
  iprop(Each (fun s r => Snd A Rs Gm K d (0, s, r)) ∗ Each (fun s r => Snd A Rs Gm K d (1, s, r)) ∗ Each (fun s r => Snd A Rs Gm K d (2, s, r))
    ∗ Each (fun s r => Rcv A Rs Gm K d (0, s, r)) ∗ Each (fun s r => Rcv A Rs Gm K d (1, s, r)) ∗ Each (fun s r => Rcv A Rs Gm K d (2, s, r)))

/-- the rest of it. -/
def Before : sProp 𝕄 :=
  iprop(Two (ready A Rs d) ∗ (Each (lent0 d) ∗ Each (lent1 d))
    ∗ (Each (fun s r => ownA d (mG d s r wV)) ∗ Two (fun s => ownA d (mK4 d s wV)))
    ∗ (Each (fun s r => ownA d (mG d s r oV)) ∗ Each (fun s r => ownA d (mK d s r oV)))
    ∗ (Each (fun s r => ownA d (mG d s r oH)) ∗ Each (fun s r => ownA d (mK d s r oH)))
    ∗ (Each (fun s r => sem0 d (wK s r)) ∗ Each (fun s r => sem0 d (wG s r)))
    ∗ own d gV (Gm d))

/-- What it leaves: the arguments as they were, the result's rows, all else at contents not chosen, every semaphore at zero. -/
def After : sProp 𝕄 :=
  iprop((Two (fun s => iprop((own d (mG4 d s xH) (xG4 A d s)) ∗ sem0 d (fG s)))
      ∗ Two (fun s => iprop(own d (mK4 d s xH) (xK4 A d s) ∗ own d (mK4 d s xV) (xK4 A d s) ∗ sem0 d (fK s)))
      ∗ Two (fun s => iprop(own d (mK4 d s rH) (yK4 Rs d s) ∗ sem0 d (fR s))))
    ∗ Each (fun s r => own d (mG d s r xV) (xG A d s r))
    ∗ Each (fun s r => ownA d (rV.slice (RR s r) (fun _ => rfl)))
    ∗ (Each (fun s r => ownA d (mL s r false)) ∗ Each (fun s r => ownA d (mL s r true)))
    ∗ (Each (fun s r => ownA d (mG d s r wV)) ∗ Each (fun s r => ownA d (mK d s r wV)))
    ∗ Each (fun s r => iprop((own d (mK d s r oV) (O2 A Rs Gm d s r) ∗ own d (mK d s r oH) (O2 A Rs Gm d s r)) ∗ sem0 d (wK s r)))
    ∗ Each (fun s r => iprop((own d (mG d s r oV) (T2 A Rs Gm d s r) ∗ own d (mG d s r oH) (T2 A Rs Gm d s r)) ∗ sem0 d (wG s r)))
    ∗ (Each (fun s r => Zero d (0, s, r)) ∗ Each (fun s r => Zero d (1, s, r)) ∗ Each (fun s r => Zero d (2, s, r)) ∗ semVal (barCell d) 0)
    ∗ own d gV (Gm d))

/-- The body runs from the one to the other and owes nothing at the end. -/
theorem body_spec :
    iprop((Bar A Rs Gm K d ∗ Cells A Rs Gm K d ∗ Before A Rs Gm gV d ∗ levAts L lv ∗ ∃ W, owes (d : Thread nD τ) (Oall d) W)
        ∗ (iprop(After A Rs Gm gV d ∗ owesAt d 24) -∗ Q ⟨⟩))
      ⊢ WP d (body gV d) Q := by
  have j0 : iprop(Each (fun s r => own d (mG d s r xV) (xG A d s r)) ∗ Each (fun s r => ownA d (mG d s r wV)) ∗ Each (room0 d)
      ∗ Each (fun s r => Snd A Rs Gm K d (0, s, r))) ⊢ Each (pre0 A Rs Gm K d) := by
    unfold pre0; simp only [Each_sep]; exact .rfl
  have q0 : Each (post0 A d) ⊢ iprop(Each (fun s r => own d (mG d s r xV) (xG A d s r)) ∗ Each (fun s r => Sent d (0, s, r))
      ∗ Each (fun s r => reached ER (rCell (devP d s) (2, s, r)) 0)) := by
    unfold post0; simp only [Each_sep]; exact .rfl
  have j1 : iprop(Each (fun s r => Rcv A Rs Gm K d (0, s, r)) ∗ Each (fun s r => Sent d (0, s, r)) ∗ Each (fun s r => own d (mK d s r wV) (K0 A d s r))
      ∗ Each (room1 d) ∗ Each (fun s r => Snd A Rs Gm K d (1, s, r))) ⊢ Each (pre1 A Rs Gm K d) := by
    unfold pre1; simp only [Each_sep]; exact .rfl
  have q1 : Each (post1 d) ⊢ iprop(Each (fun s r => Zero d (0, s, r)) ∗ Each (fun s r => ownA d (mL s r false))
      ∗ Each (fun s r => ownA (F := F) (devP d s) (mK d s r wV)) ∗ Each (fun s r => Sent d (1, s, r))) := by
    unfold post1; simp only [Each_sep]; exact .rfl
  have j2 : iprop(Each (fun s r => Rcv A Rs Gm K d (1, s, r)) ∗ Each (fun s r => Sent d (1, s, r))
      ∗ Each (fun s r => own d (rV.slice (RR s r) (fun _ => rfl)) (yK Rs d s r))
      ∗ Each (fun s r => ownA d (mK d s r oV)) ∗ Each (fun s r => ownA d (mK d s r oH)) ∗ Each (fun s r => sem0 d (wK s r))
      ∗ Each (fun s r => ownA (devP d s) (mK d s r wV)) ∗ Each (fun s r => reached ER (rCell (devP d s) (2, s, r)) 0)
      ∗ Each (fun s r => Snd A Rs Gm K d (2, s, r))) ⊢ Each (pre2 A Rs Gm K d) := by
    unfold pre2; simp only [Each_sep]; exact .rfl
  have q2 : Each (post2 A Rs Gm d) ⊢ iprop(Each (fun s r => Zero d (1, s, r)) ∗ Each (fun s r => ownA d (mL s r true))
      ∗ Each (fun s r => ownA d (rV.slice (RR s r) (fun _ => rfl))) ∗ Each (fun s r => Sent d (2, s, r))
      ∗ Each (fun s r => Fly d (wK s r) (mK d s r oH).view.dmaCredit
          iprop(own d (mK d s r oV) (O2 A Rs Gm d s r) ∗ own d (mK d s r oH) (O2 A Rs Gm d s r)))) := by
    unfold post2; simp only [Each_sep]; exact .rfl
  have j3 : iprop(Each (fun s r => Rcv A Rs Gm K d (2, s, r)) ∗ Each (fun s r => Sent d (2, s, r))
      ∗ Each (fun s r => ownA d (mG d s r oV)) ∗ Each (fun s r => ownA d (mG d s r oH)) ∗ Each (fun s r => sem0 d (wG s r)))
      ⊢ Each (pre3 A Rs Gm K d) := by
    unfold pre3; simp only [Each_sep]; exact .rfl
  have q3 : Each (post3 A Rs Gm d) ⊢ iprop(Each (fun s r => Zero d (2, s, r)) ∗ Each (fun s r => ownA d (mK d s r wV)) ∗ Each (fun s r => ownA d (mG d s r wV))
      ∗ Each (fun s r => Fly d (wG s r) (mG d s r oH).view.dmaCredit
          iprop(own d (mG d s r oV) (T2 A Rs Gm d s r) ∗ own d (mG d s r oH) (T2 A Rs Gm d s r)))) := by
    unfold post3; simp only [Each_sep]; exact .rfl
  have cG : Two (fun s => own d (mG4 d s xV) (xG4 A d s)) ⊢ Each (fun s r => own d (mG d s r xV) (xG A d s r)) := by
    rw [Each_two]; exact BI.sep_mono (own_G false xV _) (own_G true xV _)
  have cR : Two (fun s => own d (mR4 s) (yK4 Rs d s)) ⊢ Each (fun s r => own d (rV.slice (RR s r) (fun _ => rfl)) (yK Rs d s r)) := by
    rw [Each_two]; exact BI.sep_mono (own_R false _) (own_R true _)
  have cK : iprop((bigSep Finset.univ fun r => own d (mK d false r wV) (K0 A d false r)) ∗ (bigSep Finset.univ fun r => own d (mK d true r wV) (K0 A d true r)))
      ⊢ Each (fun s r => own d (mK d s r wV) (K0 A d s r)) := by
    rw [Each_two]
  unfold body Cells Before After
  simp only [WP, wp_bind]
  iintro ⟨⟨HB, ⟨Hs0, Hs1, Hs2, Hr0, Hr1, Hr2⟩, ⟨Hrd, ⟨Hl0, Hl1⟩, ⟨HwG, HwK, HwK'⟩, ⟨HvG, HvK⟩, ⟨HhG, HhK⟩, ⟨HfK, HfG⟩, Hg⟩, #Hlev, HO⟩, Hk⟩
  iapply (fetches_spec A Rs d)
  isplitl [Hrd]; · iexact Hrd
  iintro ⟨⟨HG, HG'⟩, ⟨HK, HK'⟩, ⟨HR, HR'⟩⟩
  iapply (barrier_spec A Rs Gm K d)
  isplitl [HB Hl0 Hl1 HO]
  · isplitl [HB]; · iexact HB
    isplitl [Hl0]; · iexact Hl0
    isplitl [Hl1]; · iexact Hl1
    isplitr; · iexact Hlev
    iexact HO
  iintro ⟨Hbar, Hm0, Hm1, HO⟩
  unfold flyG
  iapply fetched_spec
  isplitl [HG]; · iexact HG
  isplitl [HO]; · iexact HO
  iintro ⟨⟨⟨HhxG, HxG⟩, HsG⟩, HO⟩
  iapply fetched_spec
  isplitl [HG']; · iexact HG'
  isplitl [HO]; · iexact HO
  iintro ⟨⟨⟨HhxG', HxG'⟩, HsG'⟩, HO⟩
  ihave HxG := cG $$ [HxG HxG']
  · isplitl [HxG]; · iexact HxG
    iexact HxG'
  iapply (loop_spec (give0 d) (pre0 A Rs Gm K d) (post0 A d) (fun n => owesAt d (0 * 8 + n)) (fun s r Q' => give0_spec A Rs Gm K d s r))
  isplitl [HxG HwG Hm0 Hs0]
  · iapply j0
    isplitl [HxG]; · iexact HxG
    isplitl [HwG]; · iexact HwG
    isplitl [Hm0]; · iexact Hm0
    iexact Hs0
  isplitl [HO]; · iexact HO
  iintro ⟨Hp, HO⟩
  ihave Hp := q0 $$ Hp
  icases Hp with ⟨HxG, Hc0, Hre⟩
  iapply (keep0_spec A d false 8)
  isplitl [HK]; · iexact HK
  isplitl [HwK]; · iexact HwK
  isplitl [HO]; · iexact HO
  iintro ⟨HkF, HwK, HO⟩
  iapply (keep0_spec A d true 8)
  isplitl [HK']; · iexact HK'
  isplitl [HwK']; · iexact HwK'
  isplitl [HO]; · iexact HO
  iintro ⟨HkT, HwK', HO⟩
  ihave HwK := cK $$ [HwK HwK']
  · isplitl [HwK]; · iexact HwK
    iexact HwK'
  iapply (loop_spec (sum1 d) (pre1 A Rs Gm K d) (post1 d) (fun n => owesAt d (1 * 8 + n)) (fun s r Q' => sum1_spec A Rs Gm K d s r))
  isplitl [Hr0 Hc0 HwK Hm1 Hs1]
  · iapply j1
    isplitl [Hr0]; · iexact Hr0
    isplitl [Hc0]; · iexact Hc0
    isplitl [HwK]; · iexact HwK
    isplitl [Hm1]; · iexact Hm1
    iexact Hs1
  isplitl [HO]; · iexact HO
  iintro ⟨Hp, HO⟩
  ihave Hp := q1 $$ Hp
  icases Hp with ⟨Hz0, Hld0, Hbk, Hc1⟩
  unfold flyR
  iapply fetched_spec
  isplitl [HR]; · iexact HR
  isplitl [HO]; · iexact HO
  iintro ⟨⟨⟨HhR, HR⟩, HsR⟩, HO⟩
  iapply fetched_spec
  isplitl [HR']; · iexact HR'
  isplitl [HO]; · iexact HO
  iintro ⟨⟨⟨HhR', HR'⟩, HsR'⟩, HO⟩
  ihave HR := cR $$ [HR HR']
  · isplitl [HR]; · iexact HR
    iexact HR'
  iapply (loop_spec (norm2 gV d) (pre2 A Rs Gm K d) (post2 A Rs Gm d) (fun n => iprop(owesAt d (2 * 8 + n) ∗ own d gV (Gm d)))
    (fun s r Q' => norm2_spec A Rs Gm K gV d s r))
  isplitl [Hr1 Hc1 HR HvK HhK HfK Hbk Hre Hs2]
  · iapply j2
    isplitl [Hr1]; · iexact Hr1
    isplitl [Hc1]; · iexact Hc1
    isplitl [HR]; · iexact HR
    isplitl [HvK]; · iexact HvK
    isplitl [HhK]; · iexact HhK
    isplitl [HfK]; · iexact HfK
    isplitl [Hbk]; · iexact Hbk
    isplitl [Hre]; · iexact Hre
    iexact Hs2
  isplitl [HO Hg]
  · isplitl [HO]; · iexact HO
    iexact Hg
  iintro ⟨Hp, HO, Hg⟩
  ihave Hp := q2 $$ Hp
  icases Hp with ⟨Hz1, Hld1, HR, Hc2, HfK⟩
  iapply (loop_spec (take2 d) (pre3 A Rs Gm K d) (post3 A Rs Gm d) (fun _ => owesAt d 24) (fun s r Q' => take2_spec A Rs Gm K d s r))
  isplitl [Hr2 Hc2 HvG HhG HfG]
  · iapply j3
    isplitl [Hr2]; · iexact Hr2
    isplitl [Hc2]; · iexact Hc2
    isplitl [HvG]; · iexact HvG
    isplitl [HhG]; · iexact HhG
    iexact HfG
  isplitl [HO]; · iexact HO
  iintro ⟨Hp, HO⟩
  ihave Hp := q3 $$ Hp
  icases Hp with ⟨Hz2, HwK, HwG, HfG⟩
  iapply (loop_spec _ (fun s r => Fly d (wK s r) (mK d s r oH).view.dmaCredit
          iprop(own d (mK d s r oV) (O2 A Rs Gm d s r) ∗ own d (mK d s r oH) (O2 A Rs Gm d s r)))
      (fun s r => iprop((own d (mK d s r oV) (O2 A Rs Gm d s r) ∗ own d (mK d s r oH) (O2 A Rs Gm d s r)) ∗ sem0 d (wK s r)))
      (fun _ => owesAt d 24) (fun s r Q' => outDone_spec))
  isplitl [HfK]; · iexact HfK
  isplitl [HO]; · iexact HO
  iintro ⟨HfK, HO⟩
  iapply (loop_spec _ (fun s r => Fly d (wG s r) (mG d s r oH).view.dmaCredit
          iprop(own d (mG d s r oV) (T2 A Rs Gm d s r) ∗ own d (mG d s r oH) (T2 A Rs Gm d s r)))
      (fun s r => iprop((own d (mG d s r oV) (T2 A Rs Gm d s r) ∗ own d (mG d s r oH) (T2 A Rs Gm d s r)) ∗ sem0 d (wG s r)))
      (fun _ => owesAt d 24) (fun s r Q' => outDone_spec))
  isplitl [HfG]; · iexact HfG
  isplitl [HO]; · iexact HO
  iintro ⟨HfG, HO⟩
  iapply Hk
  isplitr [HO]
  · isplitl [HhxG HsG HhxG' HsG' HkF HkT HhR HsR HhR' HsR']
    · isplitl [HhxG HsG HhxG' HsG']
      · isplitl [HhxG HsG]
        · isplitl [HhxG]; · iexact HhxG
          iexact HsG
        isplitl [HhxG']; · iexact HhxG'
        iexact HsG'
      isplitl [HkF HkT]
      · isplitl [HkF]; · iexact HkF
        iexact HkT
      isplitl [HhR HsR]
      · isplitl [HhR]; · iexact HhR
        iexact HsR
      isplitl [HhR']; · iexact HhR'
      iexact HsR'
    isplitl [HxG]; · iexact HxG
    isplitl [HR]; · iexact HR
    isplitl [Hld0 Hld1]
    · isplitl [Hld0]; · iexact Hld0
      iexact Hld1
    isplitl [HwG HwK]
    · isplitl [HwG]; · iexact HwG
      iexact HwK
    isplitl [HfK]; · iexact HfK
    isplitl [HfG]; · iexact HfG
    isplitl [Hz0 Hz1 Hz2 Hbar]
    · isplitl [Hz0]; · iexact Hz0
      isplitl [Hz1]; · iexact Hz1
      isplitl [Hz2]; · iexact Hz2
      iexact Hbar
    iexact Hg
  iexact HO

end Body

end Cert.KernelIdeal.Hand

end
-- ==== Proof.KernelIdeal.Geo.lean ====
module

public import proofs.«01_k».proof.Proof.KernelIdeal.Body

/-!
# Whole buffers and their rows

A whole buffer owned is the rows of it that the body works on owned, and back: the rows of both streams, given away and kept,
are disjoint and cover the array.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Slices of a disjoint covering family -/

section Family
variable {sh : Shape} {T : Type} [Fintype T] [DecidableEq T] (R : T → Rect sh) (hr : ∀ t a, (R t).stride a = 1)
  (hd : ∀ t t', t ≠ t' → Disjoint (R t).set (R t').set)
  (hcov : (Finset.univ : Finset T).biUnion (fun t => (R t).set) = Finset.univ)

open Classical in
/-- What is said piece by piece, said of the whole. -/
def joined {V : Type} [Nonempty V] (Y : (t : T) → (R t).shape.Idx → V) (x : sh.Idx) : V :=
  if h : ∃ t, ∃ j, (R t).emb j = x then Y h.choose h.choose_spec.choose else Classical.arbitrary V

include hd in
theorem joined_emb {V : Type} [Nonempty V] (Y : (t : T) → (R t).shape.Idx → V) (t : T) (j : (R t).shape.Idx) : joined R Y ((R t).emb j) = Y t j := by
  have h : ∃ t', ∃ j', (R t').emb j' = (R t).emb j := ⟨t, j, rfl⟩
  have key : ∀ t' (j' : (R t').shape.Idx), (R t').emb j' = (R t).emb j → Y t' j' = Y t j := by
    intro t' j' e
    by_cases ht : t' = t
    · subst ht; rw [(R t').emb.injective e]
    · have h1 : (R t).emb j ∈ (R t').set := by
        rw [← e, ← Rect.map_emb_univ]; exact Finset.mem_map_of_mem _ (Finset.mem_univ _)
      have h2 : (R t).emb j ∈ (R t).set := by
        rw [← Rect.map_emb_univ]; exact Finset.mem_map_of_mem _ (Finset.mem_univ _)
      exact absurd h2 (Finset.disjoint_left.mp (hd t' t ht) h1)
  unfold joined
  rw [dif_pos h]
  exact key _ _ h.choose_spec.choose_spec

include hcov in
/-- Every index is in a piece. -/
theorem piece_of (x : sh.Idx) : ∃ t, ∃ j, (R t).emb j = x := by
  obtain ⟨t, -, hx⟩ := Finset.mem_biUnion.mp (hcov.symm ▸ Finset.mem_univ x)
  rw [← Rect.map_emb_univ] at hx
  obtain ⟨j, -, rfl⟩ := Finset.mem_map.mp hx
  exact ⟨t, j, rfl⟩

variable {d : Dev nD} {sp : Space} {e : EltTy} (m : Memref sig .tc sp sh e)
include hd hcov

theorem pieces (X : sh.Idx → Elt F e) :
    own d m X ⊢ bigSep Finset.univ fun t => own d (m.slice (R t) (hr t)) (fun j => X ((R t).emb j)) :=
  owns_rects (d : Thread nD τ) m fullShare R hr hd hcov X
theorem piecesA : ownA d m ⊢ (bigSep Finset.univ fun t => ownA d (m.slice (R t) (hr t)) : sProp 𝕄) := by
  iintro ⟨%X, H⟩
  iapply ((pieces R hr hd hcov m X).trans (bigSep_mono fun t _ => own_any))
  iexact H
theorem whole (Y : (t : T) → (R t).shape.Idx → Elt F e) :
    (bigSep Finset.univ fun t => own d (m.slice (R t) (hr t)) (Y t)) ⊢ own d m (joined R Y) := by
  have h := owns_of_rects (Ix := Unit) (Name := ℕ) (U := UU) (Lvl := ℕ) (d : Thread nD τ) m fullShare R hr hd hcov (joined R Y)
  have e : (fun t => owns (Ix := Unit) (Name := ℕ) (U := UU) (Lvl := ℕ) (d : Thread nD τ) (m.slice (R t) (hr t)) fullShare (fun j => joined R Y ((R t).emb j)))
      = fun t => owns (d : Thread nD τ) (m.slice (R t) (hr t)) fullShare (Y t) := by
    funext t
    congr 1
    funext j
    exact joined_emb R hd Y t j
  rw [e] at h
  exact h
theorem wholeA : (bigSep Finset.univ fun t => ownA d (m.slice (R t) (hr t)) : sProp 𝕄) ⊢ ownA d m := by
  refine (bigSep_exists_pi Finset.univ (fun t X => own d (m.slice (R t) (hr t)) X)).trans ?_
  iintro ⟨%Y, H⟩
  iexists joined R Y
  iapply (whole R hr hd hcov m Y)
  iexact H
end Family

/-- Full-width bands of rows are disjoint where their rows are, -/
theorem bands_disjoint {T : Type} {n h : ℕ} (o : T → Fin 2 → ℕ) (inb : ∀ t a, o t a + (![h, 1024] : Fin 2 → ℕ) a ≤ (⟨2, ![n, 1024]⟩ : Shape).size a)
    (hs : ∀ t t', t ≠ t' → o t 0 + h ≤ o t' 0 ∨ o t' 0 + h ≤ o t 0) :
    ∀ t t', t ≠ t' → Disjoint (Rect.unit (s := ⟨2, ![n, 1024]⟩) (o t) ![h, 1024] (inb t)).set (Rect.unit (s := ⟨2, ![n, 1024]⟩) (o t') ![h, 1024] (inb t')).set :=
  fun t t' ht => Rect.unit_disjoint 0 (hs t t' ht)
/-- and cover what their rows cover. -/
theorem bands_cover {T : Type} [Fintype T] {n h : ℕ} (o : T → Fin 2 → ℕ) (inb : ∀ t a, o t a + (![h, 1024] : Fin 2 → ℕ) a ≤ (⟨2, ![n, 1024]⟩ : Shape).size a)
    (hc : ∀ x, x < n → ∃ t, o t 0 ≤ x ∧ x < o t 0 + h) :
    (Finset.univ : Finset T).biUnion (fun t => (Rect.unit (s := ⟨2, ![n, 1024]⟩) (o t) ![h, 1024] (inb t)).set) = Finset.univ := by
  apply Finset.eq_univ_iff_forall.mpr
  intro i
  obtain ⟨t, h1, h2⟩ := hc (i 0).val (i 0).isLt
  refine Finset.mem_biUnion.mpr ⟨t, Finset.mem_univ _, Rect.mem_set_unit.mpr fun a => ?_⟩
  have h3 : o t 1 + 1024 ≤ 1024 := inb t 1
  have h4 : (i 1).val < 1024 := (i 1).isLt
  fin_cases a
  · exact ⟨h1, h2⟩
  · exact ⟨by show o t 1 ≤ (i 1).val; omega, by show (i 1).val < o t 1 + 1024; omega⟩

/-! ## The families -/

/-- The rows given away (`false`) and kept (`true`), by stream; -/
def off4 (d : Dev nD) (p : Bool × Bool) : Fin 2 → ℕ := match p.1 with | false => offG4 d p.2 | true => offK4 d p.2
theorem inb4 (d : Dev nD) (p : Bool × Bool) : ∀ a, off4 d p a + S256x1024.size a ≤ S1024x1024.size a := by
  obtain ⟨k, s⟩ := p
  cases k
  · exact inbG4 d s
  · exact inbK4 d s
/-- by chunk too. -/
def off16 (d : Dev nD) (p : Bool × Bool × Fin 4) : Fin 2 → ℕ := match p.1 with | false => offG d p.2.1 p.2.2 | true => offK d p.2.1 p.2.2
theorem inb16 (d : Dev nD) (p : Bool × Bool × Fin 4) : ∀ a, off16 d p a + S64x1024.size a ≤ S1024x1024.size a := by
  obtain ⟨k, s, r⟩ := p
  cases k
  · exact inbG d s r
  · exact inbK d s r

theorem off4_sep : ∀ d p p', p ≠ p' → off4 d p 0 + 256 ≤ off4 d p' 0 ∨ off4 d p' 0 + 256 ≤ off4 d p 0 := by decide +kernel
theorem off4_all : ∀ d (q : Fin 4), ∃ p, off4 d p 0 = 256 * q.val := by decide +kernel
theorem off16_sep : ∀ d p p', p ≠ p' → off16 d p 0 + 64 ≤ off16 d p' 0 ∨ off16 d p' 0 + 64 ≤ off16 d p 0 := by decide +kernel
theorem off16_all : ∀ d (q : Fin 16), ∃ p, off16 d p 0 = 64 * q.val := by decide +kernel

abbrev Rs4 (d : Dev nD) (p : Bool × Bool) : Rect S1024x1024 := R256 (off4 d p) (inb4 d p)
abbrev Rs16 (d : Dev nD) (p : Bool × Bool × Fin 4) : Rect S1024x1024 := R64 (off16 d p) (inb16 d p)

theorem d4 (d : Dev nD) : ∀ t t', t ≠ t' → Disjoint (Rs4 d t).set (Rs4 d t').set := bands_disjoint (off4 d) (inb4 d) (off4_sep d)
theorem c4 (d : Dev nD) : (Finset.univ : Finset (Bool × Bool)).biUnion (fun t => (Rs4 d t).set) = Finset.univ :=
  bands_cover (off4 d) (inb4 d) fun x hx => by
    obtain ⟨p, hp⟩ := off4_all d ⟨x / 256, by omega⟩
    exact ⟨p, by rw [hp]; show 256 * (x / 256) ≤ x ∧ x < 256 * (x / 256) + 256; omega⟩
theorem d16 (d : Dev nD) : ∀ t t', t ≠ t' → Disjoint (Rs16 d t).set (Rs16 d t').set := bands_disjoint (off16 d) (inb16 d) (off16_sep d)
theorem c16 (d : Dev nD) : (Finset.univ : Finset (Bool × Bool × Fin 4)).biUnion (fun t => (Rs16 d t).set) = Finset.univ :=
  bands_cover (off16 d) (inb16 d) fun x hx => by
    obtain ⟨p, hp⟩ := off16_all d ⟨x / 64, by omega⟩
    exact ⟨p, by rw [hp]; show 64 * (x / 64) ≤ x ∧ x < 64 * (x / 64) + 64; omega⟩
theorem dL : ∀ t t', t ≠ t' → Disjoint (RL t).set (RL t').set :=
  bands_disjoint (fun r : Fin 4 => ![64 * r.val, 0]) inbL fun t t' ht => by
    have : t.val ≠ t'.val := fun h => ht (Fin.ext h)
    show 64 * t.val + 64 ≤ 64 * t'.val ∨ 64 * t'.val + 64 ≤ 64 * t.val; omega
theorem cL : (Finset.univ : Finset (Fin 4)).biUnion (fun t => (RL t).set) = Finset.univ :=
  bands_cover (fun r : Fin 4 => ![64 * r.val, 0]) inbL fun x hx =>
    ⟨⟨x / 64, by omega⟩, by show 64 * (x / 64) ≤ x ∧ x < 64 * (x / 64) + 64; omega⟩
theorem dR2 : ∀ t t', t ≠ t' → Disjoint (RR256 t).set (RR256 t').set :=
  bands_disjoint (fun s : Bool => ![rBase s, 0]) inbR256 (by decide)
theorem cR2 : (Finset.univ : Finset Bool).biUnion (fun t => (RR256 t).set) = Finset.univ :=
  bands_cover (fun s : Bool => ![rBase s, 0]) inbR256 fun x hx => by
    by_cases h : x < 256
    · exact ⟨false, by show 0 ≤ x ∧ x < 0 + 256; omega⟩
    · exact ⟨true, by show 256 ≤ x ∧ x < 256 + 256; omega⟩
theorem dR8 : ∀ t t' : Bool × Fin 4, t ≠ t' → Disjoint (RR t.1 t.2).set (RR t'.1 t'.2).set :=
  bands_disjoint (fun p : Bool × Fin 4 => ![rBase p.1 + 64 * p.2.val, 0]) (fun p => inbR p.1 p.2) (by decide)
theorem cR8 : (Finset.univ : Finset (Bool × Fin 4)).biUnion (fun t => (RR t.1 t.2).set) = Finset.univ :=
  bands_cover (fun p : Bool × Fin 4 => ![rBase p.1 + 64 * p.2.val, 0]) (fun p => inbR p.1 p.2) fun x hx => by
    by_cases h : x < 256
    · exact ⟨(false, ⟨x / 64, by omega⟩), by show 0 + 64 * (x / 64) ≤ x ∧ x < 0 + 64 * (x / 64) + 64; omega⟩
    · exact ⟨(true, ⟨(x - 256) / 64, by omega⟩), by show 256 + 64 * ((x - 256) / 64) ≤ x ∧ x < 256 + 64 * ((x - 256) / 64) + 64; omega⟩

/-! ## The buffers -/

theorem bigSep_bool (Φ : Bool → sProp 𝕄) : bigSep Finset.univ Φ = Two Φ := by
  rw [show (Finset.univ : Finset Bool) = insert false {true} from by decide, bigSep_insert (by decide), bigSep_singleton]
  rfl

section Buffers
variable {d : Dev nD} {sp : Space} {e : EltTy} (m : Memref sig .tc sp S1024x1024 e)

/-- A whole array owned is the rows given away and the rows kept owned, -/
theorem split4 (X : S1024x1024.Idx → Elt F e) :
    own d m X ⊢ iprop(Two (fun s => own d (mG4 d s m) (fun j => X ((R256 (offG4 d s) (inbG4 d s)).emb j)))
      ∗ Two (fun s => own d (mK4 d s m) (fun j => X ((R256 (offK4 d s) (inbK4 d s)).emb j)))) := by
  refine (pieces (Rs4 d) (fun _ _ => rfl) (d4 d) (c4 d) m X).trans ?_
  simp only [bigSep_univ_prod, bigSep_bool]
  exact .rfl
theorem split4A : ownA d m ⊢ (iprop(Two (fun s => ownA d (mG4 d s m)) ∗ Two (fun s => ownA d (mK4 d s m))) : sProp 𝕄) := by
  refine (piecesA (Rs4 d) (fun _ _ => rfl) (d4 d) (c4 d) m).trans ?_
  simp only [bigSep_univ_prod, bigSep_bool]
  exact .rfl
/-- and back, -/
theorem join4 (X : S1024x1024.Idx → Elt F e) :
    iprop(Two (fun s => own d (mG4 d s m) (fun j => X ((R256 (offG4 d s) (inbG4 d s)).emb j)))
      ∗ Two (fun s => own d (mK4 d s m) (fun j => X ((R256 (offK4 d s) (inbK4 d s)).emb j)))) ⊢ own d m X := by
  refine BIBase.Entails.trans ?_ (owns_of_rects (d : Thread nD τ) m fullShare (Rs4 d) (fun _ _ => rfl) (d4 d) (c4 d) X)
  simp only [bigSep_univ_prod, bigSep_bool]
  exact .rfl
/-- chunk by chunk, -/
theorem split16A : ownA d m ⊢ (iprop(Each (fun s r => ownA d (mG d s r m)) ∗ Each (fun s r => ownA d (mK d s r m))) : sProp 𝕄) := by
  refine (piecesA (Rs16 d) (fun _ _ => rfl) (d16 d) (c16 d) m).trans ?_
  rw [bigSep_univ_prod, bigSep_bool]
  exact .rfl
theorem join16A : (iprop(Each (fun s r => ownA d (mG d s r m)) ∗ Each (fun s r => ownA d (mK d s r m))) : sProp 𝕄) ⊢ ownA d m := by
  refine BIBase.Entails.trans ?_ (wholeA (Rs16 d) (fun _ _ => rfl) (d16 d) (c16 d) m)
  rw [bigSep_univ_prod, bigSep_bool]
  exact .rfl

/-- The array whose chunks given away are `G` and whose chunks kept are `K`. -/
def ofChunks {V : Type} [Nonempty V] (d : Dev nD) (G K : Bool → Fin 4 → S64x1024.Idx → V) : S1024x1024.Idx → V :=
  joined (Rs16 d) fun p => match p with | (false, s, r) => G s r | (true, s, r) => K s r
theorem ofChunks_G {V : Type} [Nonempty V] (d : Dev nD) (G K : Bool → Fin 4 → S64x1024.Idx → V) (s : Bool) (r : Fin 4) (j : S64x1024.Idx) :
    ofChunks d G K ((R64 (offG d s r) (inbG d s r)).emb j) = G s r j :=
  joined_emb (Rs16 d) (d16 d) (fun p => match p with | (false, s, r) => G s r | (true, s, r) => K s r) (false, s, r) j
theorem ofChunks_K {V : Type} [Nonempty V] (d : Dev nD) (G K : Bool → Fin 4 → S64x1024.Idx → V) (s : Bool) (r : Fin 4) (j : S64x1024.Idx) :
    ofChunks d G K ((R64 (offK d s r) (inbK d s r)).emb j) = K s r j :=
  joined_emb (Rs16 d) (d16 d) (fun p => match p with | (false, s, r) => G s r | (true, s, r) => K s r) (true, s, r) j
/-- Every index is in a chunk. -/
theorem chunk_of (d : Dev nD) (x : S1024x1024.Idx) :
    (∃ s r j, (R64 (offG d s r) (inbG d s r)).emb j = x) ∨ (∃ s r j, (R64 (offK d s r) (inbK d s r)).emb j = x) := by
  obtain ⟨⟨k, s, r⟩, j, h⟩ := piece_of (Rs16 d) (c16 d) x
  cases k
  · exact .inl ⟨s, r, j, h⟩
  · exact .inr ⟨s, r, j, h⟩

theorem join16 (G K : Bool → Fin 4 → S64x1024.Idx → Elt F e) :
    iprop(Each (fun s r => own d (mG d s r m) (G s r)) ∗ Each (fun s r => own d (mK d s r m) (K s r))) ⊢ own d m (ofChunks d G K) := by
  refine BIBase.Entails.trans ?_ (whole (Rs16 d) (fun _ _ => rfl) (d16 d) (c16 d) m _)
  rw [bigSep_univ_prod, bigSep_bool]
  exact .rfl

theorem chunksG : Two (fun s => ownA d (mG4 d s m)) ⊢ (Each (fun s r => ownA d (mG d s r m)) : sProp 𝕄) := by
  rw [Each_two]
  have h (s : Bool) : ownA d (mG4 d s m) ⊢ (bigSep Finset.univ fun r => ownA d (mG d s r m) : sProp 𝕄) := by
    iintro ⟨%X, H⟩
    iapply ((own_G s m X).trans (bigSep_mono fun r _ => own_any))
    iexact H
  exact BI.sep_mono (h false) (h true)
theorem chunksK : Two (fun s => ownA d (mK4 d s m)) ⊢ (Each (fun s r => ownA d (mK d s r m)) : sProp 𝕄) := by
  rw [Each_two]
  have h (s : Bool) : ownA d (mK4 d s m) ⊢ (bigSep Finset.univ fun r => ownA d (mK d s r m) : sProp 𝕄) := by
    iintro ⟨%X, H⟩
    iapply ((own_K s m X).trans (bigSep_mono fun r _ => own_any))
    iexact H
  exact BI.sep_mono (h false) (h true)
end Buffers

variable {d : Dev nD}

theorem split_rV : ownA d rV ⊢ (Two (fun s => ownA d (mR4 s)) : sProp 𝕄) := by
  refine (piecesA RR256 (fun _ _ => rfl) dR2 cR2 rV).trans ?_
  rw [bigSep_bool]
  exact .rfl
theorem join_rV : (Each (fun s r => ownA d (rV.slice (RR s r) (fun _ => rfl))) : sProp 𝕄) ⊢ ownA d rV :=
  wholeA (fun p : Bool × Fin 4 => RR p.1 p.2) (fun _ _ => rfl) dR8 cR8 rV
theorem split_lnd (ph : Bool) : Two (fun s => ownA d (lnd ph s)) ⊢ (Each (fun s r => ownA d (mL s r ph)) : sProp 𝕄) := by
  rw [Each_two]
  exact BI.sep_mono (piecesA RL (fun _ _ => rfl) dL cL _) (piecesA RL (fun _ _ => rfl) dL cL _)
theorem join_lnd (ph : Bool) : (Each (fun s r => ownA d (mL s r ph)) : sProp 𝕄) ⊢ Two (fun s => ownA d (lnd ph s)) := by
  rw [Each_two]
  exact BI.sep_mono (wholeA RL (fun _ _ => rfl) dL cL _) (wholeA RL (fun _ _ => rfl) dL cL _)

end Cert.KernelIdeal.Hand

end
-- ==== Proof.KernelIdeal.Enter.lean ====
module

public import proofs.«01_k».proof.Proof.KernelIdeal.Body
public import proofs.«01_k».proof.Proof.KernelIdeal.Geo

/-!
# Into the body and out of it

The region hands the body whole buffers, all semaphores at zero and the cells' ghost state; here they are cut up into
what the body is run with, and what the body leaves is put together again.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Over all copies -/

/-- Phase by phase. -/
theorem copies_eq (Φ : Cp → sProp 𝕄) : bigSep Finset.univ Φ
    = iprop(Each (fun s r => Φ (0, s, r)) ∗ Each (fun s r => Φ (1, s, r)) ∗ Each (fun s r => Φ (2, s, r))) := by
  rw [bigSep_univ_prod]
  exact bigSep_univ_eq_bigSepL [(0 : Fin 3), 1, 2] (by decide) (by decide) (fun k => bigSep Finset.univ fun p : Bool × Fin 4 => Φ (k, p))

/-! ## The semaphores -/

/-- The kernel's own semaphores: a copy's source side, its landing side, a fetch's, a result's way out. -/
abbrev KS := (Cp ⊕ Cp) ⊕ ((Fin 3 × Bool) ⊕ (Bool × Bool × Fin 4))
def fetchJ (p : Fin 3 × Bool) : Fin 22 := match p.1 with | 0 => fG p.2 | 1 => fK p.2 | 2 => fR p.2
def outJ (p : Bool × Bool × Fin 4) : Fin 22 := match p.1 with | false => wK p.2.1 p.2.2 | true => wG p.2.1 p.2.2
def osem : KS → SemLoc sig
  | .inl (.inl i) => .dma (sSem (cpi i))
  | .inl (.inr i) => .dma (rSem (cpi i))
  | .inr (.inl p) => .dma (dSem (fetchJ p))
  | .inr (.inr p) => .dma (dSem (outJ p))

set_option synthInstance.maxSize 2048 in
theorem osem_inj : ∀ a b : KS, osem a = osem b → a = b := by decide +kernel
theorem ownFacts : Pipeline.OwnSemFacts spec0 osem where
  isScoped := by decide +kernel
  inj := fun a b h => osem_inj a b h
  disj := by decide +kernel

/-- The local semaphores at zero. -/
def Locals (d : Dev nD) : sProp 𝕄 :=
  iprop((Two (fun s => sem0 d (fG s)) ∗ Two (fun s => sem0 d (fK s)) ∗ Two (fun s => sem0 d (fR s)))
    ∗ (Each (fun s r => sem0 d (wK s r)) ∗ Each (fun s r => sem0 d (wG s r))))

theorem ownSems_eq (d : Dev nD) : (Pipeline.ownSems0 osem d : sProp 𝕄)
    = iprop((bigSep Finset.univ (fun i => semVal (sCell d i) 0) ∗ bigSep Finset.univ (fun i => semVal (rCell d i) 0)) ∗ Locals d) := by
  have h1 (Φ : Fin 3 × Bool → sProp 𝕄) : bigSep Finset.univ Φ
      = iprop(Two (fun s => Φ (0, s)) ∗ Two (fun s => Φ (1, s)) ∗ Two (fun s => Φ (2, s))) := by
    rw [bigSep_univ_prod, bigSep_univ_eq_bigSepL [(0 : Fin 3), 1, 2] (by decide) (by decide)]
    simp only [bigSep_bool]
    rfl
  have h2 (Φ : Bool × Bool × Fin 4 → sProp 𝕄) : bigSep Finset.univ Φ
      = iprop(Each (fun s r => Φ (false, s, r)) ∗ Each (fun s r => Φ (true, s, r))) := by
    rw [bigSep_univ_prod, bigSep_bool]
    rfl
  unfold Pipeline.ownSems0 Locals
  rw [bigSep_univ_sum, bigSep_univ_sum, bigSep_univ_sum, h1, h2]
  rfl

/-! ## The buffers -/

theorem scratch_eq (d : Dev nD) : (Pipeline.scopedRest spec0 d : sProp 𝕄)
    = iprop(ownA d xV ∗ ownA d rV ∗ ownA d oV ∗ ownA d wV
      ∗ ownA d (lnd false false) ∗ ownA d (lnd false true) ∗ ownA d (lnd true false) ∗ ownA d (lnd true true)) := by
  rw [scopedRest0_eq]
  unfold ownA own lnd
  simp only [owns_whole]
  rfl

section Enter
variable (A Rs : Dev nD → S1024x1024.Idx → Elt F .f32) (Gm : Dev nD → S1x1024.Idx → Elt F .f32)
variable (gV : Memref sig .tc .vmem S1x1024 .f32) (d : Dev nD)

/-- The rows of the residual that the body leaves alone. -/
def Spare : sProp 𝕄 := Two (fun s => own d (mG4 d s rH) (fun j => Rs d ((R256 (offG4 d s) (inbG4 d s)).emb j)))

/-- That the landing cells are open. -/
def opened (d : Dev nD) : sProp 𝕄 := bigSep Finset.univ fun i : Cp => reached ER (rCell d i) 0

theorem lent_intro : iprop((Each (fun s r => ownA (F := F) d (mL s r false)) ∗ Each (fun s r => ownA d (mL s r true))) ∗ opened d)
    ⊢ iprop(Each (lent0 (F := F) d) ∗ Each (lent1 d)) := by
  unfold opened
  rw [copies_eq]
  have h : (iprop(Each (lent0 (F := F) d) ∗ Each (lent1 d)) : sProp 𝕄)
      = iprop((Each (fun s r => ownA d (mL s r false)) ∗ Each (fun s r => reached ER (rCell d (0, s, r)) 0) ∗ Each (fun s r => reached ER (rCell d (2, s, r)) 0))
        ∗ (Each (fun s r => ownA d (mL s r true)) ∗ Each (fun s r => reached ER (rCell d (1, s, r)) 0))) := by
    unfold lent0 lent1 room0 room1
    simp only [devP_devP, devQ_devQ, Each_sep]
  rw [h]
  iintro ⟨⟨H1, H2⟩, H3, H4, H5⟩
  isplitl [H1 H3 H5]
  · isplitl [H1]; · iexact H1
    isplitl [H3]; · iexact H3
    iexact H5
  isplitl [H2]; · iexact H2
  iexact H4

theorem enter :
    iprop(Pipeline.scopedRest spec0 d ∗ (own d xH (A d) ∗ own d rH (Rs d) ∗ ownA d oH) ∗ Locals d ∗ opened d ∗ own d gV (Gm d))
      ⊢ iprop(Before A Rs Gm gV d ∗ Spare Rs d) := by
  rw [scratch_eq]
  unfold Locals Before Spare ready
  iintro ⟨⟨HxV, HrV, HoV, HwV, Ha, Hb, Hc, Hd⟩, ⟨Hx, Hr, Ho⟩, ⟨⟨⟨HfG, HfG'⟩, ⟨HfK, HfK'⟩, ⟨HfR, HfR'⟩⟩, Hout⟩, Hop, Hg⟩
  ihave H := (split4 xH (A d)) $$ Hx
  icases H with ⟨⟨HxG, HxG'⟩, ⟨HxK, HxK'⟩⟩
  ihave H := (split4 rH (Rs d)) $$ Hr
  icases H with ⟨Hsp, ⟨HrK, HrK'⟩⟩
  ihave H := (split4A xV) $$ HxV
  icases H with ⟨⟨HvG, HvG'⟩, ⟨HvK, HvK'⟩⟩
  ihave H := split_rV $$ HrV
  icases H with ⟨Hv, Hv'⟩
  ihave H := (split4A wV) $$ HwV
  icases H with ⟨HwG, HwK⟩
  ihave HwG := (chunksG wV) $$ HwG
  ihave HoV := (split16A oV) $$ HoV
  ihave HoH := (split16A oH) $$ Ho
  ihave H1 := (split_lnd false) $$ [Ha Hb]
  · isplitl [Ha]; · iexact Ha
    iexact Hb
  ihave H2 := (split_lnd true) $$ [Hc Hd]
  · isplitl [Hc]; · iexact Hc
    iexact Hd
  ihave Hl := (lent_intro d) $$ [H1 H2 Hop]
  · isplitl [H1 H2]
    · isplitl [H1]; · iexact H1
      iexact H2
    iexact Hop
  isplitr [Hsp]
  · isplitl [HfG HfG' HfK HfK' HfR HfR' HxG HxG' HxK HxK' HrK HrK' HvG HvG' HvK HvK' Hv Hv']
    · isplitl [HfG HfK HfR HxG HxK HrK HvG HvK Hv]
      · isplitl [HxG HvG HfG]
        · isplitl [HxG]; · iexact HxG
          isplitl [HvG]; · iexact HvG
          iexact HfG
        isplitl [HxK HvK HfK]
        · isplitl [HxK]; · iexact HxK
          isplitl [HvK]; · iexact HvK
          iexact HfK
        isplitl [HrK]; · iexact HrK
        isplitl [Hv]; · iexact Hv
        iexact HfR
      · isplitl [HxG' HvG' HfG']
        · isplitl [HxG']; · iexact HxG'
          isplitl [HvG']; · iexact HvG'
          iexact HfG'
        isplitl [HxK' HvK' HfK']
        · isplitl [HxK']; · iexact HxK'
          isplitl [HvK']; · iexact HvK'
          iexact HfK'
        isplitl [HrK']; · iexact HrK'
        isplitl [Hv']; · iexact Hv'
        iexact HfR'
    isplitl [Hl]; · iexact Hl
    isplitl [HwG HwK]
    · isplitl [HwG]; · iexact HwG
      iexact HwK
    isplitl [HoV]; · iexact HoV
    isplitl [HoH]; · iexact HoH
    isplitl [Hout]; · iexact Hout
    iexact Hg
  iexact Hsp

/-- The result. -/
def RES (d : Dev nD) : S1024x1024.Idx → Elt F .f32 := @ofChunks (Elt F .f32) (Elt.nonempty F .f32) d (T2 A Rs Gm d) (O2 A Rs Gm d)

theorem zeros : iprop(Each (fun s r => Zero (F := F) d (0, s, r)) ∗ Each (fun s r => Zero d (1, s, r)) ∗ Each (fun s r => Zero d (2, s, r)))
    ⊢ iprop((bigSep Finset.univ (fun i => semVal (sCell d i) 0) ∗ bigSep Finset.univ (fun i => semVal (rCell d i) 0) : sProp 𝕄)) := by
  rw [← bigSep_sep', copies_eq]
  exact .rfl

theorem leave :
    iprop(After A Rs Gm gV d ∗ Spare Rs d)
      ⊢ iprop(Pipeline.scopedRest spec0 d ∗ (own d xH (A d) ∗ own d rH (Rs d) ∗ own d oH (RES A Rs Gm d)) ∗ Pipeline.ownSems0 osem d
        ∗ semVal (barCell d) 0 ∗ own d gV (Gm d)) := by
  rw [scratch_eq, ownSems_eq]
  unfold Locals After Spare
  simp only [Each_sep]
  iintro ⟨⟨⟨⟨⟨HxG, HfG⟩, ⟨HxG', HfG'⟩⟩, ⟨⟨HxK, HvK, HfK⟩, ⟨HxK', HvK', HfK'⟩⟩, ⟨⟨HrK, HfR⟩, ⟨HrK', HfR'⟩⟩⟩, HvG, HrV, ⟨HL, HL'⟩, HwV,
    ⟨⟨HoK, HhK⟩, HwK⟩, ⟨⟨HoG, HhG⟩, HwG⟩, ⟨Hz0, Hz1, Hz2, Hbar⟩, Hg⟩, Hsp⟩
  ihave Hz := (zeros d) $$ [Hz0 Hz1 Hz2]
  · isplitl [Hz0]; · iexact Hz0
    isplitl [Hz1]; · iexact Hz1
    iexact Hz2
  ihave Hx := (join4 xH (A d)) $$ [HxG HxG' HxK HxK']
  · isplitl [HxG HxG']
    · isplitl [HxG]; · iexact HxG
      iexact HxG'
    isplitl [HxK]; · iexact HxK
    iexact HxK'
  ihave Hr := (join4 rH (Rs d)) $$ [Hsp HrK HrK']
  · isplitl [Hsp]; · iexact Hsp
    isplitl [HrK]; · iexact HrK
    iexact HrK'
  ihave HvG := (Each_mono fun s r => own_any (X := xG A d s r)) $$ HvG
  ihave HvK := (chunksK xV) $$ [HvK HvK']
  · isplitl [HvK]; · iexists _; iexact HvK
    iexists _; iexact HvK'
  ihave HxV := (join16A xV) $$ [HvG HvK]
  · isplitl [HvG]; · iexact HvG
    iexact HvK
  ihave HrV := join_rV $$ HrV
  ihave HL := (join_lnd false) $$ HL
  ihave HL' := (join_lnd true) $$ HL'
  icases HL with ⟨Ha, Hb⟩
  icases HL' with ⟨Hc, Hd⟩
  ihave HwV := (join16A wV) $$ HwV
  ihave HoV := (join16 oV (T2 A Rs Gm d) (O2 A Rs Gm d)) $$ [HoG HoK]
  · isplitl [HoG]; · iexact HoG
    iexact HoK
  ihave HoH := (join16 oH (T2 A Rs Gm d) (O2 A Rs Gm d)) $$ [HhG HhK]
  · isplitl [HhG]; · iexact HhG
    iexact HhK
  isplitl [HxV HrV HoV HwV Ha Hb Hc Hd]
  · isplitl [HxV]; · iexact HxV
    isplitl [HrV]; · iexact HrV
    isplitl [HoV]; · iexists _; iexact HoV
    isplitl [HwV]; · iexact HwV
    isplitl [Ha]; · iexact Ha
    isplitl [Hb]; · iexact Hb
    isplitl [Hc]; · iexact Hc
    iexact Hd
  isplitl [Hx Hr HoH]
  · isplitl [Hx]; · iexact Hx
    isplitl [Hr]; · iexact Hr
    iexact HoH
  isplitl [Hz HfG HfG' HfK HfK' HfR HfR' HwK HwG]
  · isplitl [Hz]; · iexact Hz
    isplitl [HfG HfG' HfK HfK' HfR HfR']
    · isplitl [HfG HfG']
      · isplitl [HfG]; · iexact HfG
        iexact HfG'
      isplitl [HfK HfK']
      · isplitl [HfK]; · iexact HfK
        iexact HfK'
      isplitl [HfR]; · iexact HfR
      iexact HfR'
    isplitl [HwK]; · iexact HwK
    iexact HwG
  isplitl [Hbar]; · iexact Hbar
  iexact Hg
end Enter

end Cert.KernelIdeal.Hand

end
-- ==== Proof.KernelIdeal.Region.lean ====
module

public import proofs.«01_k».proof.Proof.KernelIdeal.Enter
public import proofs.«01_k».proof.Proof.Gen.KernelIdeal.Frame

/-!
# The region

The host operations before the kernel and the kernel's region as segments of the program, with what the launch keeps for
the region: the invariants of all cells under one map of names, and each device's own share of the ghost state.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- As launched, -/
abbrev V₀ (c : Dev nD) : Valuation τ sig (Elt F) := fun b => m ((c : Dev nD), b)
/-- as the region finds them, -/
abbrev V₁ (c : Dev nD) : Valuation τ sig (Elt F) := StableHlo.after hostOps0 (V₀ m c)
/-- the operand, the residual and the weights among them, -/
def opA (c : Dev nD) : S1024x1024.Idx → Elt F .f32 := V₁ m c main_v1
def opR (c : Dev nD) : S1024x1024.Idx → Elt F .f32 := V₁ m c main_arg1
def opG (c : Dev nD) : S1x1024.Idx → Elt F .f32 := iblk m c 0 t0_0
/-- and as it leaves them. -/
def V₂ (c : Dev nD) : Valuation τ sig (Elt F) :=
  Function.update (V₁ m c) (Proc.devRef .tc main_v3) (RES (opA m) (opR m) (opG m) c)

theorem V₂_res (c : Dev nD) : V₂ m c main_v3 = RES (opA m) (opR m) (opG m) c := Function.update_self ..
theorem V₂_of_ne (c : Dev nD) {b : Ref sig .tc} (h : (Proc.devRef .tc b : DevRef τ sig) ≠ Proc.devRef .tc main_v3) : V₂ m c b = V₁ m c b :=
  Function.update_of_ne h ..

abbrev Sch : Rounds.Schedule (GSem nD τ sig) Bool 𝕄 := Rd (opA m) (opR m) (opG m)

/-! ## The cells -/

/-- A copy's two semaphores. -/
def scSem : Cp ⊕ Cp → SemLoc sig
  | .inl i => .dma (sSem (cpi i))
  | .inr i => .dma (rSem (cpi i))
theorem scSem_inj : Function.Injective scSem := fun a b h => by
  have e (k : Cp ⊕ Cp) : osem (.inl k) = scSem k := by cases k <;> rfl
  exact Sum.inl.inj (osem_inj (.inl a) (.inl b) (by rw [e, e, h]))
theorem scSem_ne (k : Cp ⊕ Cp) : scSem k ≠ .reg bSem := by cases k <;> exact dma_ne_reg _

def barEmb : Dev nD ↪ GSem nD τ sig := ⟨fun c => barCell c, fun _ _ h => congrArg (fun g : GSem nD τ sig => g.1.1) h⟩
def scEmb : Dev nD × (Cp ⊕ Cp) ↪ GSem nD τ sig :=
  ⟨fun ck => ((ck.1 : Thread nD τ), scSem ck.2), fun _ _ h =>
    Prod.ext (congrArg (fun g : GSem nD τ sig => g.1.1) h) (scSem_inj (congrArg Prod.snd h))⟩
/-- The barrier cells, -/
abbrev barCells : Finset (GSem nD τ sig) := Finset.univ.map barEmb
/-- and the copies'. -/
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem s_mem (c : Dev nD) (i : Cp) : sCell c i ∈ (barCells ∪ scCells : Finset (GSem nD τ sig)) :=
  Finset.mem_union_right _ (Finset.mem_map_of_mem scEmb (Finset.mem_univ (c, Sum.inl i)))
theorem r_mem (c : Dev nD) (i : Cp) : rCell c i ∈ (barCells ∪ scCells : Finset (GSem nD τ sig)) :=
  Finset.mem_union_right _ (Finset.mem_map_of_mem scEmb (Finset.mem_univ (c, Sum.inr i)))

/-- What every device may consult: all the invariants, and that every barrier is open. -/
def records (κ : GSem nD τ sig → ℕ) : sProp 𝕄 :=
  iprop((bigSep (barCells ∪ scCells) fun g => cellInv ER (Sch m) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    records m κ ⊢ cellInv ER (Sch m) (κ g) g := by
  have h : (bigSep (barCells ∪ scCells) fun g => (cellInv ER (Sch m) (κ g) g : sProp 𝕄)) ⊢ cellInv ER (Sch m) (κ g) g := bigSep_elim hg
  unfold records
  iintro ⟨H, -⟩
  iapply h
  iexact H
theorem reached_at (κ : GSem nD τ sig → ℕ) (c : Dev nD) : records m κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h
  iexact H

/-! ## A device's share -/

/-- Its barrier position and the tokens of what it pays, -/
def Lin (c : Dev nD) : sProp 𝕄 :=
  iprop(atPos ER (barCell c) 0 ∅ 0 ∗ (dutyTok ER (barCell (dev1 c)) 0 false ∗ dutyTok ER (barCell (dev2 c)) 0 true)
    ∗ bigSep Finset.univ (fun i : Cp => dutyTok ER (sCell c i) 0 false) ∗ bigSep Finset.univ (fun i : Cp => dutyTok ER (rCell (peer c i) i) 0 false))
/-- its rights to open its copies' cells, -/
def Dorm (c : Dev nD) : sProp 𝕄 :=
  iprop(bigSep Finset.univ (fun i : Cp => openTok ER (sCell c i)) ∗ bigSep Finset.univ (fun i : Cp => openTok ER (rCell c i)))
/-- what it will be paid, -/
def Creds (c : Dev nD) : sProp 𝕄 :=
  iprop(cred (tallyAt (barCell c) () 2) ∗ bigSep Finset.univ (fun i : Cp => cred (tallyAt (rCell c i) () N)))
/-- from the launch to the region, -/
def Tk (c : Dev nD) : sProp 𝕄 := iprop((∃ κ, records m κ ∗ Dorm c ∗ Lin c) ∗ Creds c)
/-- and in it. -/
def Opn (c : Dev nD) : sProp 𝕄 :=
  iprop(bigSep Finset.univ (fun i : Cp => iprop(atPos ER (sCell c i) 0 ∅ 0 ∗ reached ER (sCell c i) 0))
    ∗ bigSep Finset.univ (fun i : Cp => iprop(atPos ER (rCell c i) 0 ∅ 0 ∗ reached ER (rCell c i) 0)))
def Xk (c : Dev nD) : sProp 𝕄 := iprop((∃ κ, records m κ ∗ Opn c ∗ Lin c) ∗ Creds c ∗ Locals c ∗ levAts L lv)

theorem opens (κ : GSem nD τ sig → ℕ) (c : Dev nD) (q : Cp → GSem nD τ sig) (hq : ∀ i, q i ∈ (barCells ∪ scCells : Finset (GSem nD τ sig))) :
    iprop(records m κ ∗ bigSep Finset.univ (fun i : Cp => iprop(openTok ER (q i) ∗ semVal (q i) 0)))
      ⊢ (|={Set.univ}=> bigSep Finset.univ (fun i : Cp => iprop(atPos ER (q i) 0 ∅ 0 ∗ reached ER (q i) 0)) : sProp 𝕄) := by
  refine BIBase.Entails.trans ?_ (bigSep_fupd Finset.univ _)
  refine bigSep_with_persistent fun i _ => ?_
  iintro ⟨#HR, HT, HV⟩
  iapply (Rounds.cell_open ER (Sch m) (g := q i) (Set.mem_univ (κ (q i))))
  isplitr; · iapply (inv_at m κ (hq i)); iexact HR
  isplitl [HT]; · iexact HT
  iexact HV

theorem hopen (c : Dev nD) : iprop(Tk m c ∗ Pipeline.ownSems0 osem c ∗ levAts L lv) ⊢ (|={Set.univ}=> Xk m c : sProp 𝕄) := by
  rw [ownSems_eq]
  unfold Tk Xk Dorm Opn
  iintro ⟨⟨⟨%κ, #HR, ⟨Hos, Hor⟩, Hl⟩, Hc⟩, ⟨⟨Hs, Hr⟩, Hloc⟩, #Hlev⟩
  ihave H1 := (Entails.of_eq (bigSep_sep' Finset.univ (fun i : Cp => (openTok ER (sCell c i) : sProp 𝕄)) (fun i : Cp => semVal (sCell c i) 0)).symm) $$ [Hos Hs]
  · isplitl [Hos]; · iexact Hos
    iexact Hs
  ihave H2 := (Entails.of_eq (bigSep_sep' Finset.univ (fun i : Cp => (openTok ER (rCell c i) : sProp 𝕄)) (fun i : Cp => semVal (rCell c i) 0)).symm) $$ [Hor Hr]
  · isplitl [Hor]; · iexact Hor
    iexact Hr
  imod (opens m κ c (fun i => sCell c i) (s_mem c)) $$ [H1] with H1
  · isplitr; · iexact HR
    iexact H1
  imod (opens m κ c (fun i => rCell c i) (r_mem c)) $$ [H2] with H2
  · isplitr; · iexact HR
    iexact H2
  imodintro
  isplitl [H1 H2 Hl]
  · iexists κ
    isplitr; · iexact HR
    isplitl [H1 H2]
    · isplitl [H1]; · iexact H1
      iexact H2
    iexact Hl
  isplitl [Hc]; · iexact Hc
  isplitl [Hloc]; · iexact Hloc
  iexact Hlev

theorem bar_intro (κ : GSem nD τ sig → ℕ) (c : Dev nD) :
    iprop(records m κ ∗ atPos ER (barCell c) 0 ∅ 0 ∗ (dutyTok ER (barCell (dev1 c)) 0 false ∗ dutyTok ER (barCell (dev2 c)) 0 true)
      ∗ cred (tallyAt (barCell c) () 2)) ⊢ Bar (opA m) (opR m) (opG m) κ c := by
  unfold Bar
  iintro ⟨#HR, Ha, ⟨H1, H2⟩, Hc⟩
  isplitr; · iapply (inv_at m κ (bar_mem c)); iexact HR
  isplitl [H1]
  · isplitr; · iapply (inv_at m κ (bar_mem (dev1 c))); iexact HR
    isplitl [H1]; · iexact H1
    iapply (reached_at m κ (dev1 c)); iexact HR
  isplitl [H2]
  · isplitr; · iapply (inv_at m κ (bar_mem (dev2 c))); iexact HR
    isplitl [H2]; · iexact H2
    iapply (reached_at m κ (dev2 c)); iexact HR
  isplitl [Ha]; · iexact Ha
  iexact Hc

theorem snd_intro (κ : GSem nD τ sig → ℕ) (c : Dev nD) :
    iprop(records m κ ∗ bigSep Finset.univ (fun i : Cp => iprop(dutyTok ER (sCell c i) 0 false ∗ reached ER (sCell c i) 0 ∗ dutyTok ER (rCell (peer c i) i) 0 false)))
      ⊢ bigSep Finset.univ (fun i : Cp => Snd (opA m) (opR m) (opG m) κ c i) := by
  refine bigSep_with_persistent fun i _ => ?_
  unfold Snd
  iintro ⟨#HR, H⟩
  isplitr; · iapply (inv_at m κ (s_mem c i)); iexact HR
  isplitr; · iapply (inv_at m κ (r_mem (peer c i) i)); iexact HR
  iexact H

theorem rcv_intro (κ : GSem nD τ sig → ℕ) (c : Dev nD) :
    iprop(records m κ ∗ bigSep Finset.univ (fun i : Cp => iprop(atPos ER (sCell c i) 0 ∅ 0 ∗ atPos ER (rCell c i) 0 ∅ 0 ∗ cred (tallyAt (rCell c i) () N))))
      ⊢ bigSep Finset.univ (fun i : Cp => Rcv (opA m) (opR m) (opG m) κ c i) := by
  refine bigSep_with_persistent fun i _ => ?_
  unfold Rcv
  iintro ⟨#HR, H⟩
  isplitr; · iapply (inv_at m κ (s_mem c i)); iexact HR
  isplitr; · iapply (inv_at m κ (r_mem c i)); iexact HR
  iexact H

theorem cells_intro (κ : GSem nD τ sig → ℕ) (c : Dev nD) :
    iprop(records m κ ∗ Opn c ∗ Lin c ∗ Creds c)
      ⊢ iprop(Bar (opA m) (opR m) (opG m) κ c ∗ Cells (opA m) (opR m) (opG m) κ c ∗ opened c) := by
  unfold Opn Lin Creds opened
  rw [bigSep_sep', bigSep_sep']
  iintro ⟨#HR, ⟨⟨Has, #Hrs⟩, ⟨Har, Hrr⟩⟩, ⟨Hab, Htb, Hts, Htr⟩, Hcb, Hcr⟩
  ihave HS := (snd_intro m κ c) $$ [Hts Htr]
  · isplitr; · iexact HR
    rw [bigSep_sep', bigSep_sep']
    isplitl [Hts]; · iexact Hts
    isplitr; · iexact Hrs
    iexact Htr
  ihave HV := (rcv_intro m κ c) $$ [Has Har Hcr]
  · isplitr; · iexact HR
    rw [bigSep_sep', bigSep_sep']
    isplitl [Has]; · iexact Has
    isplitl [Har]; · iexact Har
    iexact Hcr
  ihave HS := (Entails.of_eq (copies_eq (fun i : Cp => Snd (opA m) (opR m) (opG m) κ c i))) $$ HS
  ihave HV := (Entails.of_eq (copies_eq (fun i : Cp => Rcv (opA m) (opR m) (opG m) κ c i))) $$ HV
  icases HS with ⟨H0, H1, H2⟩
  isplitl [Hab Htb Hcb]
  · iapply (bar_intro m κ c)
    isplitr; · iexact HR
    isplitl [Hab]; · iexact Hab
    isplitl [Htb]; · iexact Htb
    iexact Hcb
  isplitr [Hrr]
  · unfold Cells
    isplitl [H0]; · iexact H0
    isplitl [H1]; · iexact H1
    isplitl [H2]; · iexact H2
    iexact HV
  iexact Hrr

/-! ## The buffers -/

/-- The unscoped buffers, -/
def bufs : Finset (DevRef τ sig) := (StableHlo.tcRefs τ sig).filter fun b => ¬ b.isScoped
/-- those no window has, -/
def rest : Finset (DevRef τ sig) := bufs \ Pipeline.arrRefs (τ := τ) spec0
/-- and those the body addresses. -/
def touched : Finset (DevRef τ sig) := {Proc.devRef .tc main_v1, Proc.devRef .tc main_arg1, Proc.devRef .tc main_v3}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem arr_sub : Pipeline.arrRefs (τ := τ) spec0 ⊆ bufs := by decide +kernel
theorem touched_sub : touched ⊆ rest := by decide +kernel
theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) :=
  StableHlo.held_sub_split (c : Thread nD τ) arr_sub W
theorem touched_eq (c : Dev nD) (W : Valuation τ sig (Elt F)) : (StableHlo.held (c : Thread nD τ) touched W : sProp 𝕄)
    = iprop(own c xH (W main_v1) ∗ own c rH (W main_arg1) ∗ own c oH (W main_v3)) := by
  unfold StableHlo.held own
  rw [bigSep_eq_bigSepL_of_eq [Proc.devRef .tc main_v1, Proc.devRef .tc main_arg1, Proc.devRef .tc main_v3] (by decide) (by decide)]
  rw [owns_whole, owns_whole, owns_whole]
  rfl

end Cert.KernelIdeal.Hand

end
-- ==== Proof.KernelIdeal.Segments.lean ====
module

public import proofs.«01_k».proof.Proof.KernelIdeal.Region

/-!
# The program's segments

The region's proof data and its body obligation, the region as a segment that talks across devices, and the program as
the host operations followed by the region.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The proof data -/

/-- Before the body -/
def Phi0 (c : Dev nD) : sProp 𝕄 :=
  iprop(Pipeline.scopedRest spec0 c ∗ (∃ r, prngReg c r) ∗ StableHlo.held (c : Thread nD τ) touched (V₁ m c) ∗ Xk m c)
/-- and after it. -/
def Phi1 (c : Dev nD) : sProp 𝕄 :=
  iprop(Pipeline.scopedRest spec0 c ∗ (∃ r, prngReg c r) ∗ StableHlo.held (c : Thread nD τ) touched (V₂ m c)
    ∗ Pipeline.ownSems0 osem c ∗ semVal (barCell c) 0)

/-- The weights' window stays as fetched; the device owes everything before its one point and nothing after. -/
def dat (c : Dev nD) : Dat τ (Elt F) Unit ℕ UU ℕ cfg0 c where
  A w := V m c (Pipeline.arrRef spec0 w)
  after := fun
    | 0 => fun t => iblk m c 0 t
    | ⟨_ + 1, h⟩ => absurd h (Nat.not_lt.2 (Nat.le_add_left _ _))
  Φ t := if t.val = 0 then Phi0 m c else Phi1 m c
  q _ := fullShare
  owed t := if t.val = 0 then Oall c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem before_eq (c : Dev nD) (t : Fin cfg0.N) (d) : (dat m c).before 0 t d = iblk m c 0 t :=
  ((dat m c).before_in_eq_fetched 0 rfl (fun _ => rfl) (fun _ _ _ => rfl) (fun _ => rfl) t d).trans rfl

theorem owed_first (c : Dev nD) : (dat m c).owed t0_0.castSucc = Oall c := by
  show (if (t0_0.castSucc : Fin (cfg0.N + 1)).val = 0 then Oall c else 0) = Oall c; exact if_pos rfl
theorem owed_zero (c : Dev nD) : (dat m c).owed 0 = Oall c := by
  show (if ((0 : Fin (cfg0.N + 1)).val = 0) then Oall c else 0) = Oall c; exact if_pos rfl
theorem owed_succ (c : Dev nD) : (dat m c).owed t0_0.succ = 0 := by
  show (if (t0_0.succ : Fin (cfg0.N + 1)).val = 0 then Oall c else 0) = 0
  exact if_neg (by rw [Fin.val_succ]; exact Nat.succ_ne_zero _)
theorem last_ne : ¬ (Fin.last cfg0.N).val = 0 := by
  rw [Fin.val_last, show cfg0.N = 1 from N_0]; exact one_ne_zero
theorem owed_last (c : Dev nD) : (dat m c).owed (Fin.last cfg0.N) = 0 := by
  show (if (Fin.last cfg0.N).val = 0 then Oall c else 0) = 0
  exact if_neg last_ne
theorem phi_first (c : Dev nD) : (dat m c).Φ t0_0.castSucc = Phi0 m c := by
  show (if (t0_0.castSucc : Fin (cfg0.N + 1)).val = 0 then Phi0 m c else Phi1 m c) = _; exact if_pos rfl
theorem phi_zero (c : Dev nD) : (dat m c).Φ 0 = Phi0 m c := by
  show (if ((0 : Fin (cfg0.N + 1)).val = 0) then Phi0 m c else Phi1 m c) = _; exact if_pos rfl
theorem phi_succ (c : Dev nD) : (dat m c).Φ t0_0.succ = Phi1 m c := by
  show (if (t0_0.succ : Fin (cfg0.N + 1)).val = 0 then Phi0 m c else Phi1 m c) = _
  exact if_neg (by rw [Fin.val_succ]; exact Nat.succ_ne_zero _)
theorem phi_last (c : Dev nD) : (dat m c).Φ (Fin.last cfg0.N) = Phi1 m c := by
  show (if (Fin.last cfg0.N).val = 0 then Phi0 m c else Phi1 m c) = _
  exact if_neg last_ne

theorem owes_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO; iexists W; isplitr
  · ipureintro; exact fun _ _ => Or.inl trivial
  iexact HO
theorem owes_out (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt Pipeline.owesWithin
  rw [h]
  iintro ⟨%W, -, HO⟩; iexists W; iexact HO

/-! ## The body -/

theorem body_run (c : Dev nD) (gV : Memref sig .tc .vmem S1x1024 .f32) {Q : PUnit.{1} → sProp (MT nD τ sig Unit (Elt F) ℕ UU ℕ)} :
    iprop((Phi0 m c ∗ (∃ W, owes (c : Thread nD τ) (Oall c) W) ∗ own c gV (opG m c))
      ∗ (iprop(Phi1 m c ∗ (∃ W, owes (c : Thread nD τ) 0 W) ∗ own c gV (opG m c)) -∗ Q ⟨⟩)) ⊢ WP c (body gV c) Q := by
  unfold Phi0 Phi1 Xk
  rw [touched_eq, touched_eq, V₂_res, V₂_of_ne m c (b := main_v1) (by decide), V₂_of_ne m c (b := main_arg1) (by decide)]
  iintro ⟨⟨⟨Hscr, Hp, ⟨Hx, Hr, Ho⟩, ⟨%κ, #HR, Hop, Hl⟩, Hc, Hloc, #Hlev⟩, HO, Hg⟩, Hk⟩
  ihave H := (cells_intro m κ c) $$ [Hop Hl Hc]
  · isplitr; · iexact HR
    isplitl [Hop]; · iexact Hop
    isplitl [Hl]; · iexact Hl
    iexact Hc
  icases H with ⟨Hbar, Hcells, Hopd⟩
  ihave H := (enter (opA m) (opR m) (opG m) gV c) $$ [Hscr Hx Hr Ho Hloc Hopd Hg]
  · isplitl [Hscr]; · iexact Hscr
    isplitl [Hx Hr Ho]
    · isplitl [Hx]; · iexact Hx
      isplitl [Hr]; · iexact Hr
      iexists _; iexact Ho
    isplitl [Hloc]; · iexact Hloc
    isplitl [Hopd]; · iexact Hopd
    iexact Hg
  icases H with ⟨Hbef, Hsp⟩
  iapply (body_spec (opA m) (opR m) (opG m) κ gV c)
  isplitl [Hbar Hcells Hbef HO]
  · isplitl [Hbar]; · iexact Hbar
    isplitl [Hcells]; · iexact Hcells
    isplitl [Hbef]; · iexact Hbef
    isplitr; · iexact Hlev
    iexact HO
  unfold owesAt
  rw [Of_last]
  iintro ⟨Haft, -, HO⟩
  ihave H := (leave (opA m) (opR m) (opG m) gV c) $$ [Haft Hsp]
  · isplitl [Haft]; · iexact Haft
    iexact Hsp
  icases H with ⟨Hscr, Hbufs, Hsems, Hb0, Hg⟩
  iapply Hk
  isplitl [Hscr Hp Hbufs Hsems Hb0]
  · isplitl [Hscr]; · iexact Hscr
    isplitl [Hp]; · iexact Hp
    isplitl [Hbufs]; · iexact Hbufs
    isplitl [Hsems]; · iexact Hsems
    iexact Hb0
  isplitl [HO]; · iexact HO
  iexact Hg

theorem point_run (c : Dev nD) (t : Fin cfg0.N) (Q : PUnit.{1} → sProp (MT nD τ sig Unit (Elt F) ℕ UU ℕ)) :
    WP c (body ((cfg0.win 0).stage (cfg0.slots t 0)) c) Q ⊢ WP c (bodyAt0 t) Q := by
  rw [body_eq]
  show _ ⊢ WP c (Prog.op .deviceId fun d => body ((cfg0.win 0).stage (cfg0.slots t 0)) d) Q
  unfold WP
  rw [wp_deviceId]

theorem body_ob (c : Dev nD) : BodyObligation (dat (F := F) m c) defs₀ 𝒱₀ () Set.univ := fun t => by
  obtain rfl := fin_N0 t
  rw [bigSep_W0, bigSep_W0, phi_first, phi_succ]
  iintro ⟨HP, HO, ⟨%d, Hg⟩⟩
  ihave HO := (owes_out m c _ (Oall c) (owed_first m c)) $$ HO
  iapply (point_run c t0_0 _)
  iapply (body_run m c _)
  isplitl [HP HO Hg]
  · isplitl [HP]; · iexact HP
    isplitl [HO]; · iexact HO
    rw [before_eq]
    iexact Hg
  iintro ⟨HP, ⟨%W, HO⟩, Hg⟩
  isplitl [HP]; · iexact HP
  isplitl [HO]; · iapply (owes_in m c t0_0.succ 0 (owed_succ m c) W); iexact HO
  iexact Hg

/-! ## The region as a segment -/

theorem cells_distinct : Function.Injective (Pipeline.cellOf (nD := nD) (τ := τ) (Pipeline.pin (pcfgs (F := F)) adm)) := cellOf_inj

theorem facts : Pipeline.PLaunchFacts (nD := nD) (τ := τ) (pcfgs (F := F)) 0 where
  cellOf_inj a := by rw [Subsingleton.elim a adm]; exact cells_distinct
  win := winFacts0
  pre := Pipeline.PreFacts.none _
  block_pos := block_pos0
  arr_whole := arr_whole0
  stage_whole := stage_whole0

theorem Oall_pos {c : Dev nD} {g : GSem nD τ sig} {u : Unit} (h : 0 < Oall c g u) :
    (∃ i, g = rCell (peer c i) i) ∨ g = barCell (dev1 c) ∨ g = barCell (dev2 c) := by
  unfold Oall at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, hi⟩ := Of_pos h
      exact .inl ⟨i, hi⟩
    · rw [tallyAt_apply] at h
      split at h
      · next hg => exact .inr (.inr hg.1)
      · exact absurd h (Nat.lt_irrefl 0)
  · rw [tallyAt_apply] at h
    split at h
    · next hg => exact .inr (.inl hg.1)
    · exact absurd h (Nat.lt_irrefl 0)

/-- All a device owes is above what its staging transfer waits for. -/
theorem owed_high (c : Dev nD) (t : Fin (cfg0.N + 1)) (g : GSem nD τ sig) (i : Unit) (h : 0 < (dat m c).owed t g i) :
    i ∈ L g ∧ (0 : ℕ) < lv g i := by
  have e : (dat m c).owed t = if t.val = 0 then Oall c else 0 := rfl
  rw [e] at h
  split at h
  · rcases Oall_pos h with ⟨k, rfl⟩ | rfl | rfl
    · exact ⟨by rw [L_tc]; exact Finset.mem_singleton_self _, by rw [lv_r]; omega⟩
    · exact ⟨by rw [L_tc]; exact Finset.mem_singleton_self _, by rw [lv_bar]; exact Nat.one_pos⟩
    · exact ⟨by rw [L_tc]; exact Finset.mem_singleton_self _, by rw [lv_bar]; exact Nat.one_pos⟩
  · exact absurd h (Nat.lt_irrefl 0)

theorem stage_ne : ∀ (w : Fin 1) (s : Fin (spec0 w).nbuf) (i : Cp), (spec0 w).sem s ≠ rSem (cpi i) := by decide +kernel
theorem stage_low (c : Dev nD) (w : Fin 1) (s : Fin (spec0 w).nbuf) : lv ((c : Thread nD τ), .dma ((spec0 w).sem s)) () = 0 := by
  dsimp only [lv]
  rw [if_neg (dma_ne_reg _), dif_neg]
  rintro ⟨i, hi⟩
  exact stage_ne w s i (SemLoc.dma.inj hi)

def Yk (c : Dev nD) : sProp 𝕄 := semVal (barCell c) 0

theorem hin (c : Dev nD) : iprop(Pipeline.scopedRest (Pipeline.pin (pcfgs (F := F)) adm 0).spec c ∗ (∃ r, prngReg c r)
      ∗ StableHlo.held (c : Thread nD τ) touched (V₁ m c) ∗ Xk m c) ⊢ (pdats m 0 c).Φ 0 := by
  rw [show (pdats m 0 c).Φ 0 = Phi0 m c from phi_zero m c]
  unfold Phi0
  iintro H; iexact H
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c : Thread nD τ) touched (V₂ m c) ∗ Pipeline.ownSems0 osem c ∗ Yk c) := by
  rw [show (pdats m 0 c).Φ (Fin.last _) = Phi1 m c from phi_last m c]
  unfold Phi1 Yk
  iintro H; iexact H

theorem V₂_untouched (c : Dev nD) (b : DevRef τ sig) (h : b ∈ rest \ touched) : V₂ m c b = V₁ m c b := by
  refine Function.update_of_ne (fun e => (Finset.mem_sdiff.mp h).2 ?_) ..
  rw [e]
  exact Finset.mem_insert_of_mem (Finset.mem_insert_of_mem (Finset.mem_singleton_self _))

set_option backward.isDefEq.respectTransparency.types false in
def seg1 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    touched rest touched_sub facts rfl (fun c => (body_ob m c).loose)
    (fun _ => 0) Oall (fun c => (owed_zero m c).trans (zero_add _).symm) (owed_last m) (fun _ => rfl) (fun c w => by unfold Dat.share; split <;> rfl)
    (V₁ m) (V₂ m) (V₂_untouched m)
    (Tk m) Yk (Xk m) Yk (hopen m) (hin m) (hout m)
    (fun c => by iintro H; imodintro; iexact H)
    (fun _ => 0)
    ⟨fun _ _ _ => by rw [L_tc]; exact Finset.mem_singleton_self _, fun c w s => (stage_low c w s).le, fun c t g i h => owed_high m c t g i h⟩
    (fun _ => iprop(emp))
    (fun c w => by fin_cases w; exact (dat m c).arrAt_in 0 rfl 0)
    (fun c w => by fin_cases w; exact ((dat m c).arrAt_in 0 rfl _).trans (V₂_of_ne m c (b := Pipeline.arrRef spec0 0) (by decide)).symm)

/-! ## The program -/

/-- What rides beside the host operations: the ghost state, the generator and the debts. -/
def R (c : Dev nD) : sProp 𝕄 := iprop(Tk m c ∗ (∃ r, prngReg c r) ∗ ∃ W, owes (c : Thread nD τ) (Oall c) W)

theorem ops_sub : ∀ op ∈ (hostOps0 : List (HloOp τ sig (Elt F))), op.bufs ⊆ bufs := fun op h => by
  rcases List.mem_cons.mp h with rfl | h
  · exact (by decide +kernel : ({Proc.devRef .tc main_arg0, Proc.devRef .tc main_v1} : Finset (DevRef τ sig)) ⊆ bufs)
  rcases List.mem_singleton.mp h with rfl
  exact (by decide +kernel : ({Proc.devRef .tc main_arg2, Proc.devRef .tc main_v2} : Finset (DevRef τ sig)) ⊆ bufs)
theorem ops_fresh : ∀ op ∈ (hostOps0 : List (HloOp τ sig (Elt F))), op.fresh = ∅ := fun op h => by
  rcases List.mem_cons.mp h with rfl | h
  · rfl
  rcases List.mem_singleton.mp h with rfl
  rfl

def seg0 : Pipeline.HostSeg (Ix := Unit) (Name := ℕ) (U := UU) (Lvl := ℕ) (pcfgs (F := F)) defs₀ 𝒱₀ L lv :=
  Pipeline.HostSeg.ofOps _ _ _ _ _ bufs hostOps0 ops_sub ops_fresh (V₀ m) (R m)

def segs : List (Pipeline.Seg (pcfgs (F := F)) adm (pdats m) () defs₀ 𝒱₀ L lv) := [.host (seg0 m), .region (seg1 m)]

theorem main_eq (c : Dev nD) : main (F := F) c = Pipeline.Seg.run (segs m) :=
  main_segs adm (pdats m) () 𝒱₀ L lv (seg0 m) (seg1 m) rfl c

theorem seg1_pre (c : Dev nD) : iprop(StableHlo.held (c : Thread nD τ) bufs (V₁ m c) ∗ R m c) ⊢ (seg1 m).pre c := by
  show _ ⊢ iprop(StableHlo.held (c : Thread nD τ) (Pipeline.arrRefs (τ := τ) spec0) (V₁ m c) ∗ (∃ r, prngReg c r)
    ∗ (StableHlo.held (c : Thread nD τ) rest (V₁ m c) ∗ emp) ∗ Tk m c ∗ ∃ Wd, owes (c : Thread nD τ) (0 + Oall c) Wd)
  rw [held_split, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem seg1_post (c : Dev nD) : (seg1 m).post c
    ⊢ iprop((StableHlo.held (c : Thread nD τ) bufs (V₂ m c) ∗ semVal (barCell c) 0) ∗ ∃ W, owes (c : Thread nD τ) (0 : CellTallies nD τ sig Unit) W) := by
  show iprop(StableHlo.held (c : Thread nD τ) (Pipeline.arrRefs (τ := τ) spec0) (V₂ m c) ∗ (∃ r, prngReg c r)
    ∗ (StableHlo.held (c : Thread nD τ) rest (V₂ m c) ∗ emp) ∗ Yk c ∗ ∃ Wd, owes (c : Thread nD τ) (0 : CellTallies nD τ sig Unit) Wd) ⊢ _
  rw [held_split]
  unfold Yk
  iintro ⟨Ha, -, ⟨Hr, -⟩, Hb, HO⟩
  isplitr [HO]
  · isplitr [Hb]
    · isplitl [Ha]; · iexact Ha
      iexact Hr
    iexact Hb
  iexact HO

end Cert.KernelIdeal.Hand

end
-- ==== Proof.KernelIdeal.Launch.lean ====
module

public import proofs.«01_k».proof.Proof.KernelIdeal.Segments

/-!
# The launch and the run

Every cell's invariant is allocated at once, the copies' cells unopened, and each device is dealt its share; the run
theorem follows: the arguments unchanged, the result as computed, every semaphore back at zero.
-/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact scSem_ne ck.2 (congrArg Prod.snd h)

/-- A duty's cell and name: a barrier's two, a copy's one at each end. -/
def duty : Bool ⊕ (Cp ⊕ Cp) → SemLoc sig × Bool
  | .inl b => (.reg bSem, b)
  | .inr k => (scSem k, false)
theorem duty_inj : Function.Injective duty := by
  rintro (a | a) (b | b) h
  · exact congrArg Sum.inl (congrArg Prod.snd h)
  · exact absurd (congrArg Prod.fst h).symm (scSem_ne b)
  · exact absurd (congrArg Prod.fst h) (scSem_ne a)
  · exact congrArg Sum.inr (scSem_inj (congrArg Prod.fst h))
def dutyEmb : Dev nD × (Bool ⊕ (Cp ⊕ Cp)) ↪ GSem nD τ sig × ℕ × Bool :=
  ⟨fun ck => (((ck.1 : Thread nD τ), (duty ck.2).1), 0, (duty ck.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩
abbrev duties : Finset (GSem nD τ sig × ℕ × Bool) := Finset.univ.map dutyEmb

/-- The tokens of a device's own cells, -/
def toks (c : Dev nD) : sProp 𝕄 :=
  iprop((dutyTok ER (barCell c) 0 false ∗ dutyTok ER (barCell c) 0 true)
    ∗ bigSep Finset.univ (fun i : Cp => dutyTok ER (sCell c i) 0 false) ∗ bigSep Finset.univ (fun i : Cp => dutyTok ER (rCell c i) 0 false))
/-- and those it pays with. -/
def pays (c : Dev nD) : sProp 𝕄 :=
  iprop((dutyTok ER (barCell (dev1 c)) 0 false ∗ dutyTok ER (barCell (dev2 c)) 0 true)
    ∗ bigSep Finset.univ (fun i : Cp => dutyTok ER (sCell c i) 0 false) ∗ bigSep Finset.univ (fun i : Cp => dutyTok ER (rCell (peer c i) i) 0 false))

theorem toks_eq : (bigSep duties fun x => (dutyTok ER x.1 x.2.1 x.2.2 : sProp 𝕄)) = bigSep Finset.univ fun c : Dev nD => toks c := by
  rw [bigSep_map, bigSep_univ_prod]
  refine bigSep_congr fun c _ => ?_
  rw [bigSep_univ_sum, bigSep_univ_sum, bigSep_bool]
  rfl

def around1 : Dev nD ≃ Dev nD := ⟨dev1, dev1, dev1_dev1, dev1_dev1⟩
def around2 : Dev nD ≃ Dev nD := ⟨dev2, dev2, dev2_dev2, dev2_dev2⟩
def aroundR : Dev nD × Cp ≃ Dev nD × Cp :=
  ⟨fun x => (peer x.1 x.2, x.2), fun x => (peer x.1 x.2, x.2), fun x => Prod.ext (peer_peer _ _) rfl, fun x => Prod.ext (peer_peer _ _) rfl⟩

theorem toks_around : (bigSep Finset.univ fun c : Dev nD => (toks c : sProp 𝕄)) = bigSep Finset.univ fun c : Dev nD => pays c := by
  have hr : (bigSep Finset.univ fun c : Dev nD => bigSep Finset.univ fun i : Cp => (dutyTok ER (rCell c i) 0 false : sProp 𝕄))
      = bigSep Finset.univ fun c : Dev nD => bigSep Finset.univ fun i : Cp => dutyTok ER (rCell (peer c i) i) 0 false := by
    have h := bigSep_univ_equiv aroundR (fun x : Dev nD × Cp => (dutyTok ER (rCell x.1 x.2) 0 false : sProp 𝕄))
    rw [bigSep_univ_prod, bigSep_univ_prod] at h
    exact h
  have h1 := bigSep_univ_equiv around1 (fun c : Dev nD => (dutyTok ER (barCell c) 0 false : sProp 𝕄))
  have h2 := bigSep_univ_equiv around2 (fun c : Dev nD => (dutyTok ER (barCell c) 0 true : sProp 𝕄))
  unfold toks pays
  rw [bigSep_sep', bigSep_sep', bigSep_sep', bigSep_sep', bigSep_sep', bigSep_sep', hr, h1, h2]
  rfl

/-! ## The launch credit -/

theorem Of_bar (d c : Dev nD) (n : ℕ) : Of d n (barCell c) () = 0 := by
  by_contra h
  obtain ⟨i, -, e⟩ := Of_pos (Nat.pos_of_ne_zero h)
  exact dma_ne_reg _ (congrArg Prod.snd e).symm

theorem bar_eq {c d : Dev nD} (h : barCell c = barCell d) : c = d := congrArg (fun g : GSem nD τ sig => g.1.1) h

theorem owed_bar (d c : Dev nD) : Oall d (barCell c) () = (if d = dev2 c then 1 else 0) + (if d = dev1 c then 1 else 0) := by
  unfold Oall
  rw [Pi.add_apply, Finsupp.add_apply, Pi.add_apply, Finsupp.add_apply, Of_bar, zero_add, tallyAt_apply, tallyAt_apply]
  congr 1
  · refine if_congr ⟨fun h => ?_, fun h => ?_⟩ rfl rfl
    · rw [bar_eq h.1, dev2_dev2]
    · rw [h, dev2_dev2]; exact ⟨rfl, rfl⟩
  · refine if_congr ⟨fun h => ?_, fun h => ?_⟩ rfl rfl
    · rw [bar_eq h.1, dev1_dev1]
    · rw [h, dev1_dev1]; exact ⟨rfl, rfl⟩

theorem r_eq {c d : Dev nD} {i j : Cp} (h : rCell c i = rCell d j) : c = d ∧ i = j :=
  ⟨congrArg (fun g : GSem nD τ sig => g.1.1) h, cpi_inj i j (rSem_inj _ _ (SemLoc.dma.inj (congrArg Prod.snd h)))⟩

theorem owed_r (d c : Dev nD) (i : Cp) : Oall d (rCell c i) () = if d = peer c i then N else 0 := by
  unfold Oall Of
  rw [Pi.add_apply, Finsupp.add_apply, Pi.add_apply, Finsupp.add_apply, tallyAt_apply, tallyAt_apply,
    if_neg (fun h => dma_ne_reg _ (congrArg Prod.snd h.1)), if_neg (fun h => dma_ne_reg _ (congrArg Prod.snd h.1)), add_zero, add_zero,
    Finset.sum_apply, Finsupp.finset_sum_apply, Finset.sum_eq_single i]
  · rw [tallyAt_apply]
    refine if_congr ⟨fun h => ?_, fun h => ?_⟩ rfl rfl
    · rw [(r_eq h.1).1, peer_peer]
    · rw [h, peer_peer]; exact ⟨rfl, rfl⟩
  · intro j _ hj
    rw [tallyAt_apply]
    exact if_neg fun h => hj (r_eq h.1).2.symm
  · intro h
    exact absurd (Finset.mem_filter.mpr ⟨Finset.mem_univ i, Nat.zero_le _⟩) h

theorem launch_bar (c : Dev nD) :
    tallyOn (barCell c) (launchCredit (Pipeline.owing Oall) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (dev2 c) fun _ => 1, Finset.sum_ite_eq' Finset.univ (dev1 c) fun _ => 1, if_pos (Finset.mem_univ _),
    if_pos (Finset.mem_univ _)]
theorem launch_r (c : Dev nD) (i : Cp) :
    tallyOn (rCell c i) (launchCredit (Pipeline.owing Oall) 0 (rCell c i)) = (tallyAt (rCell c i) () N : CellTallies nD τ sig Unit) := by
  unfold tallyAt
  refine congrArg _ (Finsupp.ext fun u => ?_)
  cases u
  rw [Pipeline.launchCredit_owing, Finsupp.single_eq_same, Finset.sum_congr rfl fun d _ => owed_r d c i,
    Finset.sum_ite_eq' Finset.univ (peer c i) fun _ => N, if_pos (Finset.mem_univ _)]

def rEmb : Cp ↪ SemLoc sig := ⟨fun i => .dma (rSem (cpi i)), fun i j h => cpi_inj i j (rSem_inj _ _ (SemLoc.dma.inj h))⟩

theorem creds (c : Dev nD) : (Pipeline.launchCred Oall c : sProp 𝕄) ⊢ Creds c := by
  have hsub : Finset.univ.map rEmb ⊆ Finset.univ.erase (SemLoc.reg bSem : SemLoc sig) := fun q hq => by
    obtain ⟨i, -, rfl⟩ := Finset.mem_map.mp hq
    exact Finset.mem_erase.mpr ⟨dma_ne_reg _, Finset.mem_univ _⟩
  unfold Pipeline.launchCred Creds
  rw [bigSep_univ_at _ (SemLoc.reg bSem), launch_bar]
  refine sep_mono_right ?_
  have hs : (bigSep (Finset.univ.erase (SemLoc.reg bSem : SemLoc sig)) fun q => cred (tallyOn ((c : Thread nD τ), q) (launchCredit (Pipeline.owing Oall) 0 ((c : Thread nD τ), q))) : sProp 𝕄)
      ⊢ bigSep (Finset.univ.map rEmb) fun q => cred (tallyOn ((c : Thread nD τ), q) (launchCredit (Pipeline.owing Oall) 0 ((c : Thread nD τ), q))) := bigSep_subset hsub
  refine hs.trans (Entails.of_eq ?_)
  rw [bigSep_map]
  exact bigSep_congr fun i _ => congrArg cred (launch_r c i)

/-! ## The launch element -/

def u₀ : UU :=
  (initOf (Pipeline.cells (Pipeline.pin (pcfgs (F := F)) adm) cells_distinct) (Pipeline.launchToks (Pipeline.pin (pcfgs (F := F)) adm) cells_distinct),
    (launchOf barCells scCells duties, 1))

/-- A resource held by device 0 until everything is dealt. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells scCells duties)))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg bSem} from by decide +kernel, BI.bigSep_singleton]
theorem unscoped_eq : ∀ sm : SemLoc sig, sm.isScoped .tc = false → sm = .reg bSem := by decide +kernel

/-! ## The first thread states -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A core's launch holdings besides the protocol's ghost state. -/
def bundle (c : Dev nD) : sProp 𝕄 :=
  iprop(StableHlo.held (c : Thread nD τ) bufs (V₀ m c) ∗ Creds c ∗ owes (c : Thread nD τ) (Oall c) ∅ ∗ ∃ r, prngReg c r)

theorem T₀_intro (κ : GSem nD τ sig → ℕ) (c : Dev nD) :
    iprop(records m κ ∗ ((atPos ER (barCell c) 0 ∅ 0 ∗ Dorm c ∗ pays c) ∗ bundle m c)) ⊢ T₀ m c := by
  unfold bundle T₀ R Tk Lin pays
  iintro ⟨#HR, ⟨Ha, Hd, Hp⟩, Hh, Hc, HO, Hg⟩
  isplitl [Hh]; · iexact Hh
  isplitl [Ha Hd Hp Hc]
  · isplitr [Hc]
    · iexists κ
      isplitr; · iexact HR
      isplitl [Hd]; · iexact Hd
      isplitl [Ha]; · iexact Ha
      iexact Hp
    iexact Hc
  isplitl [Hg]; · iexact Hg
  iexists ∅; iexact HO

theorem core_intro (c : Dev nD) :
    iprop(unscopedBufs c (fun b => m ((c : Thread nD τ).loc b)) ∗ unscopedSems0 c
        ∗ owes (c : Thread nD τ) (Oall c) ∅ ∗ Pipeline.launchCred Oall c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  isplitr [Hus HG]
  · isplitl [Hh]; · iexact Hh
    isplitl [Hcr]; · iapply (creds (F := F) c); iexact Hcr
    isplitl [HO]; · iexact HO
    iexists (ρ c); iexact Hp
  isplitl [Hus]; · iexact Hus
  iexact HG

theorem dorm_eq : (bigSep scCells fun g => (openTok ER g : sProp 𝕄)) = bigSep Finset.univ fun c : Dev nD => Dorm c := by
  rw [bigSep_map, bigSep_univ_prod]
  refine bigSep_congr fun c _ => ?_
  rw [bigSep_univ_sum]
  rfl

theorem init :
    iprop((bigSep Finset.univ fun c : Dev nD => iprop(unscopedBufs c (fun b => m ((c : Thread nD τ).loc b)) ∗ unscopedSems0 c
          ∗ owes (c : Thread nD τ) (Oall c) ∅ ∗ Pipeline.launchCred Oall c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hdeal : (bigSep Finset.univ fun c : Dev nD => iprop(bundle m c ∗ (semVal (barCell c) 0 ∗ G c)) : sProp 𝕄)
      ⊢ iprop((bigSep Finset.univ fun c : Dev nD => bundle m c) ∗ (bigSep Finset.univ fun c : Dev nD => semVal (barCell c) 0)
        ∗ BI.own (ER (launchOf barCells scCells duties))) := by
    rw [bigSep_sep', bigSep_sep']
    unfold G
    rw [bigSep_onDev]
  have hback (κ : GSem nD τ sig → ℕ) : iprop(records m κ ∗ (((bigSep Finset.univ fun c : Dev nD => (atPos ER (barCell c) 0 ∅ 0 : sProp 𝕄))
        ∗ (bigSep Finset.univ fun c : Dev nD => Dorm c) ∗ (bigSep Finset.univ fun c : Dev nD => pays c)) ∗ (bigSep Finset.univ fun c : Dev nD => bundle m c)))
      ⊢ bigSep Finset.univ (T₀ m) := by
    rw [← bigSep_sep', ← bigSep_sep', ← bigSep_sep']
    exact bigSep_with_persistent fun c _ => T₀_intro m κ c
  have hcores : (bigSep Finset.univ fun c : Dev nD => iprop(unscopedBufs c (fun b => m ((c : Thread nD τ).loc b)) ∗ unscopedSems0 c
          ∗ owes (c : Thread nD τ) (Oall c) ∅ ∗ Pipeline.launchCred Oall c ∗ prngReg c (ρ c) ∗ G c) : sProp 𝕄)
      ⊢ bigSep Finset.univ fun c : Dev nD => iprop(bundle m c ∗ (semVal (barCell c) 0 ∗ G c)) := bigSep_mono fun c _ => core_intro m ρ c
  iintro ⟨H, -⟩
  ihave H := (hcores.trans hdeal) $$ H
  icases H with ⟨HB, Hv, Hu⟩
  imod (Rounds.fund_launch ER (Sch m) disjoint_cells (fun g _ h => h) duties) $$ [Hv Hu] with ⟨%κ, -, #Hinv, #Hr, Hat, Hopen, Htok⟩
  · isplitl [Hv]; · iapply hv; iexact Hv
    iexact Hu
  imodintro
  iapply (hback κ)
  isplitr
  · unfold records
    isplitr; · iexact Hinv
    iexact Hr
  isplitr [HB]
  · isplitl [Hat]; · iapply hat; iexact Hat
    isplitl [Hopen]; · iapply (Entails.of_eq (dorm_eq (F := F))); iexact Hopen
    iapply (Entails.of_eq ((toks_eq (F := F)).trans toks_around)); iexact Htok
  iexact HB

/-! ## The run -/

theorem bufs_eq (c : Dev nD) (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide +kernel)]
  rfl

set_option backward.isDefEq.respectTransparency.types false in
/-- From any memory with zero counters, every weakly fair execution on the devices terminates, and every final state has the
    arguments unchanged, each device's result as computed and every counter of the machine at zero. -/
theorem run_main : θ_run defs (onTc (τ := τ) (main (F := F))) ⟨m, fun _ => 0, ρ⟩
    (fun r => (∀ c : Dev nD, r.2.mem ((c : Thread nD τ).loc main_v3) = RES (opA m) (opR m) (opG m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cells_distinct EP defs₀ 𝒱₀ L lv m ρ main (segs m)
    (fun c Q => by rw [main_eq m c])
    (by simp only [segs, Pipeline.Seg.pipes_host, Pipeline.Seg.pipes_region, Pipeline.Seg.pipes_nil]; decide)
    (O₀ := Oall) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => seg1_pre m c, fun c => seg1_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v3) = V₂ m c main_v3)
      ∧ s.sem (barCell c) = 0)
    (hfin := fun c s' => by
      dsimp only [Tₙ]; rw [bufs_eq]
      iintro ⟨⟨⟨H0, H1, H2, -, -, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₂_of_ne m c (b := main_arg0) (by decide)] at h0
        rw [V₂_of_ne m c (b := main_arg1) (by decide)] at h1
        rw [V₂_of_ne m c (b := main_arg2) (by decide)] at h2
        rw [V₂_res] at h3
        exact ⟨h3, h0.trans (V_main_arg0 m c), h1.trans (V_main_arg1 m c), h2.trans (V_main_arg2 m c)⟩,
      sem_eq_zero hs fun c sm hsm => by
        obtain rfl := unscoped_eq sm hsm
        exact (h c).2⟩)

end Cert.KernelIdeal.Hand

end
-- ==== Proof.KernelIdeal.Value.lean ====
module

public import proofs.«01_k».proof.Proof.KernelIdeal.Launch
public import proofs.«01_k».proof.Proof.Gen.ReferenceIdeal.Run
public import Idealize.ShloMosaic.Lib.Pointwise

/-!
# The value

With floats as extended reals and the changes of format the identity, the kernel and the reference compute the same array
of three: the four operands' sum and the residual, each row divided by the root of its mean square and a small constant,
each column multiplied by its weight. The kernel adds the four operands in an order that depends on the chunk.
-/

@[expose] public section

noncomputable section

namespace Cert.KernelIdeal.Hand

open Idealize.ShloMosaic Idealize.ShloMosaic.TcCoe
open Cert.KernelIdeal Cert.KernelIdeal.Gen

/-! ## The array both compute -/

/-- Element `k` of a row, over the root of the row's mean square and a small constant, times a weight. -/
def normed (y : Fin 1024 → EReal) (w : EReal) (k : Fin 1024) : EReal :=
  Ideal.div (y k) (Ideal.sqrt (Ideal.div (∑ l, y l * y l) (Ideal.ofBits .f32 0x44800000#32) + Ideal.ofBits .f32 0x358637BD#32)) * w

/-- Row `i` of the operands' sum and the residual. -/
def summed (A : Dev nD → S1024x1024.Idx → EReal) (R : S1024x1024.Idx → EReal) (i : Fin 1024) (k : Fin 1024) : EReal :=
  (∑ p, A p (ix2 i k)) + R (ix2 i k)

/-- The result. -/
def SPEC (A : Dev nD → S1024x1024.Idx → EReal) (R : S1024x1024.Idx → EReal) (g : Fin 1024 → EReal) : S1024x1024.Idx → EReal :=
  fun x => normed (summed A R (x 0)) (g (x 1)) (x 1)

/-! ## The payloads -/

set_option maxRecDepth 16384 in
theorem pay24_at (a b : FVec Ideal S64x1024 .bf16) (c : FVec Ideal S64x1024 .f32) (g : FVec Ideal S1x1024 .f32) (i : Fin 64) (k : Fin 1024) :
    k0_pay24 (F := Ideal) a b c g (ix2 i k) = normed (fun l => a (ix2 i l) + b (ix2 i l) + c (ix2 i l)) (g (ix2 0 k)) k := by
  pointwise [k0_pay24, normed]
theorem pay3_at (a : FVec Ideal S64x1024 .f32) (j : S64x1024.Idx) : k0_pay3 (F := Ideal) a j = a j := by
  pointwise [k0_pay3]
theorem pay10_at (a : FVec Ideal S256x1024 .f32) (j : S256x1024.Idx) : k0_pay10 (F := Ideal) a j = a j := by
  pointwise [k0_pay10]
theorem pay13_at (a b : FVec Ideal S64x1024 .bf16) (j : S64x1024.Idx) : k0_pay13 (F := Ideal) a b j = a j + b j := by
  pointwise [k0_pay13]
theorem pay23_at (a : FVec Ideal S64x1024 .f32) (j : S64x1024.Idx) : k0_pay23 (F := Ideal) a j = a j := by
  pointwise [k0_pay23]
theorem pay25_at (a b : FVec Ideal S64x1024 .bf16) (c : FVec Ideal S64x1024 .f32) (g : FVec Ideal S1x1024 .f32) (j : S64x1024.Idx) :
    k0_pay25 (F := Ideal) a b c g j = k0_pay24 (F := Ideal) a b c g j := by
  pointwise [k0_pay25]
theorem pay49_at (a : FVec Ideal S64x1024 .bf16) (j : S64x1024.Idx) : k0_pay49 (F := Ideal) a j = a j := by
  pointwise [k0_pay49]

/-! ## Where the chunks' rows are -/

/-- Row `i` of a chunk, in the whole array. -/
def rowOf (o : Fin 2 → ℕ) (h : ∀ a, o a + S64x1024.size a ≤ S1024x1024.size a) (i : Fin 64) : Fin 1024 :=
  ⟨o 0 + i.val, by have h0 : o 0 + 64 ≤ 1024 := h 0; omega⟩

theorem emb_row (o : Fin 2 → ℕ) (h : ∀ a, o a + S64x1024.size a ≤ S1024x1024.size a) (i : Fin 64) (k : Fin 1024) :
    (R64 o h).emb (ix2 i k) = ix2 (rowOf o h i) k := by
  funext a
  fin_cases a
  · exact Fin.ext (show o 0 + 1 * i.val = o 0 + i.val by omega)
  · have h1 : o 1 + 1024 ≤ 1024 := h 1
    exact Fin.ext (show o 1 + 1 * k.val = k.val by omega)

theorem rowOf_eq {o o' : Fin 2 → ℕ} (h : ∀ a, o a + S64x1024.size a ≤ S1024x1024.size a)
    (h' : ∀ a, o' a + S64x1024.size a ≤ S1024x1024.size a) (e : o = o') (i : Fin 64) : rowOf o h i = rowOf o' h' i := by
  subst e; rfl

/-! ## The kernel's values -/

section Kernel
variable (A : Dev nD → S1024x1024.Idx → EReal) (R : S1024x1024.Idx → EReal) (Rs : Dev nD → S1024x1024.Idx → EReal)
  (g : Fin 1024 → EReal) (Gm : Dev nD → S1x1024.Idx → EReal) (d : Dev nD) (s : Bool) (r : Fin 4) (i : Fin 64) (k : Fin 1024)

theorem G0_at : G0 (F := Ideal) A d s r (ix2 i k) = A d (ix2 (rowOf (offG d s r) (inbG d s r) i) k) := by
  unfold G0
  rw [pay3_at]
  show A d ((R256 (offG4 d s) (inbG4 d s)).emb ((RL r).emb (ix2 i k))) = _
  rw [← emb_chunk (inbG4 d s) (inbG d s r) (by rw [offG_chunk]; rfl) (by rw [offG_chunk, offG4_col]; rfl), emb_row]
theorem K0_at : K0 (F := Ideal) A d s r (ix2 i k) = A d (ix2 (rowOf (offK d s r) (inbK d s r) i) k) := by
  unfold K0
  rw [pay10_at]
  show A d ((R256 (offK4 d s) (inbK4 d s)).emb ((RL r).emb (ix2 i k))) = _
  rw [← emb_chunk (inbK4 d s) (inbK d s r) (by rw [offK_chunk]; rfl) (by rw [offK_chunk, offK4_col]; rfl), emb_row]
theorem yK_at : yK (F := Ideal) Rs d s r (ix2 i k) = Rs d (ix2 (rowOf (offK d s r) (inbK d s r) i) k) := by
  show Rs d ((R256 (offK4 d s) (inbK4 d s)).emb ((RL r).emb (ix2 i k))) = _
  rw [← emb_chunk (inbK4 d s) (inbK d s r) (by rw [offK_chunk]; rfl) (by rw [offK_chunk, offK4_col]; rfl), emb_row]

/-- The sum of two is over a device and its phase-0 partner. -/
theorem S1_at : S1 (F := Ideal) A d s r (ix2 i k)
    = A d (ix2 (rowOf (offK d s r) (inbK d s r) i) k) + A (devP d s) (ix2 (rowOf (offK d s r) (inbK d s r) i) k) := by
  unfold S1
  rw [pay13_at, K0_at, G0_at, rowOf_eq (inbG (devP d s) s r) (inbK d s r) (offK_eq_offG d s r).symm]

/-- A device, its two partners and the fourth are all. -/
theorem all_four (f : Dev nD → EReal) : f d + f (devP d s) + (f (devQ d s) + f (devP (devQ d s) s)) = ∑ p, f p := by
  have h4 : ∑ p : Dev nD, f p = f 0 + f 1 + f 2 + f 3 := Fin.sum_univ_four f
  rw [h4]
  have hd : ∀ (d : Dev nD) (s : Bool), ({d, devP d s, devQ d s, devP (devQ d s) s} : Multiset (Dev nD)) = {0, 1, 2, 3} := by decide +kernel
  have h := congrArg (fun t => (Multiset.map f t).sum) (hd d s)
  simp only [Multiset.insert_eq_cons, Multiset.map_cons, Multiset.map_singleton, Multiset.sum_cons, Multiset.sum_singleton] at h
  simp only [add_assoc] at h ⊢
  exact h

theorem row_sum : S1 (F := Ideal) A d s r (ix2 i k) + S1 (F := Ideal) A (devQ d s) s r (ix2 i k) + yK (F := Ideal) Rs d s r (ix2 i k)
    = summed A (Rs d) (rowOf (offK d s r) (inbK d s r) i) k := by
  rw [S1_at, S1_at, yK_at, rowOf_eq (inbK (devQ d s) s r) (inbK d s r) (offK_devQ d s r),
    all_four d s fun p => A p (ix2 (rowOf (offK d s r) (inbK d s r) i) k)]
  rfl

theorem kept_at (hR : Rs d = R) (hg : ∀ k, Gm d (ix2 0 k) = g k) :
    k0_pay24 (F := Ideal) (S1 A d s r) (S1 A (devQ d s) s r) (yK Rs d s r) (Gm d) (ix2 i k)
      = SPEC A R g (ix2 (rowOf (offK d s r) (inbK d s r) i) k) := by
  rw [pay24_at, hg]
  exact congrArg (fun y => normed y (g k) k) (funext fun l => (row_sum A Rs d s r i l).trans (by rw [hR]; rfl))

theorem RES_eq (hR : ∀ d, Rs d = R) (hg : ∀ d k, Gm d (ix2 0 k) = g k) : RES (F := Ideal) A Rs Gm d = SPEC A R g := by
  funext x
  rcases chunk_of d x with ⟨s, r, j, rfl⟩ | ⟨s, r, j, rfl⟩
  · unfold RES
    rw [ofChunks_G]
    obtain ⟨i, k, rfl⟩ : ∃ (i : Fin 64) (k : Fin 1024), j = ix2 i k := ⟨j 0, j 1, eq_ix2 j⟩
    unfold T2 N2
    rw [pay49_at, pay25_at, kept_at A R Rs g Gm (devP d s) s r i k (hR _) (hg _), emb_row,
      rowOf_eq (inbK (devP d s) s r) (inbG d s r) (by rw [offK_eq_offG, devP_devP])]
  · unfold RES
    rw [ofChunks_K]
    obtain ⟨i, k, rfl⟩ : ∃ (i : Fin 64) (k : Fin 1024), j = ix2 i k := ⟨j 0, j 1, eq_ix2 j⟩
    unfold O2
    rw [pay23_at, kept_at A R Rs g Gm d s r i k (hR _) (hg _), emb_row]
end Kernel

/-! ## The kernel's arguments -/

section Arguments
variable (m : (ℓ : Loc nD τ sig) → Buf (Elt Ideal) ℓ) (c : Dev nD)

theorem cast_operand (x : FVec Ideal S1x1024x1024 .f32) (i k : Fin 1024) :
    shapeCast S1024x1024 x shapeCasts_S1x1024x1024_S1024x1024 (ix2 i k) = x (ix3 0 i k) := by
  pointwise []
theorem cast_weights (x : FVec Ideal S1024 .f32) (k : Fin 1024) : shapeCast S1x1024 x shapeCasts_S1024_S1x1024 (ix2 0 k) = x (ix1 k) := by
  pointwise []

theorem opA_at (i k : Fin 1024) : opA m c (ix2 i k) = (m ((c : Thread nD τ).loc main_arg0) : S1x1024x1024.Idx → EReal) (ix3 0 i k) := by
  have e : opA m c = shapeCast S1024x1024 (m ((c : Thread nD τ).loc main_arg0) : S1x1024x1024.Idx → EReal) shapeCasts_S1x1024x1024_S1024x1024 := by
    unfold opA
    after_results
    rfl
  rw [e]
  exact cast_operand _ i k
theorem opR_eq : opR m c = m ((c : Thread nD τ).loc main_arg1) := V_main_arg1 m c
theorem opG_at (k : Fin 1024) : opG m c (ix2 0 k) = (m ((c : Thread nD τ).loc main_arg2) : S1024.Idx → EReal) (ix1 k) := by
  have e : V m c main_v2 = shapeCast S1x1024 (m ((c : Thread nD τ).loc main_arg2) : S1024.Idx → EReal) shapeCasts_S1024_S1x1024 := by
    show StableHlo.after hostOps0 (V₀ m c) main_v2 = _
    after_results
    rfl
  have e' : opG m c (ix2 0 k) = (V m c main_v2 : S1x1024.Idx → EReal) (ix2 0 k) := by
    show (V m c main_v2 : S1x1024.Idx → EReal) (((cfg0.win 0).blk t0_0).view.emb (ix2 0 k)) = _
    congr 1
    funext a
    fin_cases a
    · exact Fin.ext rfl
    · apply Fin.ext
      show 0 + 1 * k.val = k.val
      omega
  rw [e', e]
  exact cast_weights _ k
end Arguments

end Cert.KernelIdeal.Hand

/-! ## The reference's value -/

namespace Cert.ReferenceIdeal.Hand

open Idealize.ShloMosaic Idealize.ShloMosaic.TcCoe
open Cert.ReferenceIdeal Cert.ReferenceIdeal.Gen
open Cert.KernelIdeal.Hand (normed summed SPEC)

variable (X : FVec Ideal S4x1024x1024 .f32) (R : FVec Ideal S1024x1024 .f32) (g : FVec Ideal S1024 .f32)

/-- The reference's sum, -/
def refSum : FVec Ideal S1024x1024 .f32 :=
  addf (Host.reduceAdd X (constant S_ .f32 0x00000000#32) reducesTo_S4x1024x1024_S1024x1024_d0 h_S_) R
/-- its result. -/
def refRes (y : FVec Ideal S1024x1024 .f32) : FVec Ideal S1024x1024 .f32 :=
  mulf (Host.divf y (broadcastInDim S1024x1024 ![0, 1] bcast_S1024x1_S1024x1024_0_1 (Host.sqrt (addf (Host.divf (broadcastInDim S1024x1 ![0] bcast_S1024_S1024x1_0 (Host.reduceAdd (mulf y y) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))

theorem refSum_at (i k : Fin 1024) : refSum X R (ix2 i k) = summed (fun p x => X (ix3 p (x 0) (x 1))) R i k := by
  pointwise [refSum, summed]

theorem refRes_at (y : FVec Ideal S1024x1024 .f32) (i k : Fin 1024) : refRes g y (ix2 i k) = normed (fun l => y (ix2 i l)) (g (ix1 k)) k := by
  pointwise [refRes, normed]

theorem ref_eq : refRes g (refSum X R) = SPEC (fun p x => X (ix3 p (x 0) (x 1))) R fun k => g (ix1 k) := by
  funext x
  obtain ⟨i, k, rfl⟩ : ∃ (i k : Fin 1024), x = ix2 i k := ⟨x 0, x 1, eq_ix2 x⟩
  rw [refRes_at]
  simp only [refSum_at]
  rfl

end Cert.ReferenceIdeal.Hand

end
-- ==== Proof.lean ====
/- The claims: each program's run ends with its arguments unchanged and every semaphore counter back at zero, no
   operation was rewritten, and with floats as extended reals the kernel leaves on every device what the reference computes. -/
module

public import proofs.«01_k».proof.Defs
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem

theorem kernel_quiet : Cert.quiescent_Kernel := fun m g _ =>
  (θ_run Cert.Kernel.defs _ _).mono (fun _ h => ⟨fun c => (h.1 c).2, h.2⟩) (Cert.Kernel.Hand.run_main m g)

theorem ideal_quiet : Cert.quiescent_KernelIdeal := fun m g _ =>
  (θ_run Cert.KernelIdeal.defs _ _).mono (fun _ h => ⟨fun c => (h.1 c).2, h.2⟩) (Cert.KernelIdeal.Hand.run_main m g)

theorem reference_quiet : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- A device's operand is its block of the whole. -/
theorem block_operand (X : FVec Ideal ⟨3, ![4, 1024, 1024]⟩ .f32) (p : Fin 4) (i k : Fin 1024) :
    Layout.block ⟨3, ![1, 1024, 1024]⟩ ⟨3, ![4, 1024, 1024]⟩ 0 4 p X (by decide) (ix3 0 i k) = X (ix3 p i k) := by
  rw [Layout.block_apply]
  congr 1
  funext a
  apply Fin.ext
  fin_cases a
  · show p.val * 1 + 0 = p.val
    omega
  · rfl
  · rfl

/-- What the kernel leaves on device `c`, of arguments that agree with the reference's. -/
theorem kernel_value (m : (ℓ : Loc Cert.KernelIdeal.nD Cert.KernelIdeal.τ Cert.KernelIdeal.sig) → Buf (Elt Ideal) ℓ)
    (X : FVec Ideal ⟨3, ![4, 1024, 1024]⟩ .f32) (R : FVec Ideal ⟨2, ![1024, 1024]⟩ .f32) (g : FVec Ideal ⟨1, ![1024]⟩ .f32)
    (h : ∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c X (by decide)
      ∧ m ((c.tc : Thread Cert.KernelIdeal.nD Cert.KernelIdeal.τ).loc Cert.KernelIdeal.main_arg1) = R
      ∧ m ((c.tc : Thread Cert.KernelIdeal.nD Cert.KernelIdeal.τ).loc Cert.KernelIdeal.main_arg2) = g)
    (c : Dev Cert.KernelIdeal.nD) :
    Cert.KernelIdeal.Hand.RES (Cert.KernelIdeal.Hand.opA m) (Cert.KernelIdeal.Hand.opR m) (Cert.KernelIdeal.Hand.opG m) c
      = Cert.ReferenceIdeal.Hand.refRes g (Cert.ReferenceIdeal.Hand.refSum X R) := by
  have hR : ∀ d, Cert.KernelIdeal.Hand.opR m d = R := fun d => (Cert.KernelIdeal.Hand.opR_eq m d).trans (h d).2.1
  have hG : ∀ d k, Cert.KernelIdeal.Hand.opG m d (ix2 0 k) = g (ix1 k) := fun d k =>
    (Cert.KernelIdeal.Hand.opG_at m d k).trans (congrFun (h d).2.2 (ix1 k))
  have hA : Cert.KernelIdeal.Hand.opA m = fun p x => X (ix3 p (x 0) (x 1)) := by
    funext p x
    obtain ⟨i, k, rfl⟩ : ∃ (i k : Fin 1024), x = ix2 i k := ⟨x 0, x 1, eq_ix2 x⟩
    exact (Cert.KernelIdeal.Hand.opA_at m p i k).trans ((congrFun (h p).1 (ix3 0 i k)).trans (block_operand X p i k))
  rw [Cert.ReferenceIdeal.Hand.ref_eq, Cert.KernelIdeal.Hand.RES_eq _ R _ (fun k => g (ix1 k)) _ c hR hG, hA]

/-- On every device the kernel's result is the reference's. -/
theorem algebraic : Cert.algebraic_KernelIdeal_ReferenceIdeal := by
  intro m ρ m' ρ' _ h
  refine ⟨_, (θ_run Cert.KernelIdeal.defs _ _).mono (fun _ hr c => ⟨((hr.1 c).1).trans (kernel_value m _ _ _ h c), (hr.1 c).2⟩)
    (Cert.KernelIdeal.Hand.run_main m ρ), ?_⟩
  exact (θ_run Cert.ReferenceIdeal.defs _ _).mono (fun _ hr => hr 0) (Cert.ReferenceIdeal.Value.run m' ρ')

theorem claim : Cert.Claim :=
  ⟨Cert.Kernel.Gen.facts, Cert.KernelIdeal.Gen.facts, Cert.ReferenceIdeal.Gen.facts, kernel_quiet, ideal_quiet, reference_quiet, trivial, algebraic⟩

end Cert.Proof

end
